-- ==== Defs.lean ====
def Pre_Kernel [hPre_slots_ok : Cert.Pre_slots_ok.Facts] (m : (ℓ : Loc Cert.Kernel.nD Cert.Kernel.τ Cert.Kernel.sig) → Buf (Elt Bits) ℓ) : Prop :=
  ∀ c : Dev Cert.Kernel.nD,
    (Cert.Pre_slots_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_slots_ok : Cert.Pre_slots_ok.Facts] (m : (ℓ : Loc Cert.KernelIdeal.nD Cert.KernelIdeal.τ Cert.KernelIdeal.sig) → Buf (Elt Ideal) ℓ) : Prop :=
  ∀ c : Dev Cert.KernelIdeal.nD,
    (Cert.Pre_slots_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_KernelIdeal_finite_ok [hPre_finite_ok : Cert.Pre_finite_ok.Facts] (m : (ℓ : Loc Cert.KernelIdeal.nD Cert.KernelIdeal.τ Cert.KernelIdeal.sig) → Buf (Elt Ideal) ℓ) : Prop :=
  ∀ c : Dev Cert.KernelIdeal.nD,
    (Cert.Pre_finite_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_finite_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_finite_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ok [hPre_finite_ok : Cert.Pre_finite_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_finite_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_finite_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2 = (fun _ => 1#1)

def quiescent_Kernel [hKernel : Cert.Kernel.Facts] [hPre_slots_ok : Cert.Pre_slots_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_slots_ok : Cert.Pre_slots_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_ok [hKernelIdeal : Cert.KernelIdeal.Facts] [hPre_finite_ok : Cert.Pre_finite_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_ok [hReferenceIdeal : Cert.ReferenceIdeal.Facts] [hPre_finite_ok : Cert.Pre_finite_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_on_y_only_pre_finite_ok [hKernelIdeal : Cert.KernelIdeal.Facts] [hReferenceIdeal : Cert.ReferenceIdeal.Facts] [hPre_finite_ok : Cert.Pre_finite_ok.Facts] [hOn_y_only : Cert.On_y_only.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v38_1)) (v2 : (c : Dev Cert.KernelIdeal.nD) → Buf (Elt Ideal) ((c.tc : Thread Cert.KernelIdeal.nD Cert.KernelIdeal.τ).loc Cert.KernelIdeal.main_v38_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![256, 48, 64]⟩ : Shape).Idx, (Cert.On_y_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 i = 1#1 → r.2.mem ((c.tc : Thread Cert.KernelIdeal.nD Cert.KernelIdeal.τ).loc Cert.KernelIdeal.main_v38_0) i = v0 c i)
          ∧ (∀ i : (⟨4, ![323, 48, 64, 128]⟩ : Shape).Idx, (Cert.On_y_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 i = 1#1 → r.2.mem ((c.tc : Thread Cert.KernelIdeal.nD Cert.KernelIdeal.τ).loc Cert.KernelIdeal.main_v38_1) i = v1 c i)
          ∧ (∀ i : (⟨3, ![323, 48, 64]⟩ : Shape).Idx, (Cert.On_y_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2 i = 1#1 → r.2.mem ((c.tc : Thread Cert.KernelIdeal.nD Cert.KernelIdeal.τ).loc Cert.KernelIdeal.main_v38_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![256, 48, 64]⟩ : Shape).Idx, (Cert.On_y_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 i = 1#1 → r.2.mem ((c.tc : Thread Cert.ReferenceIdeal.nD Cert.ReferenceIdeal.τ).loc Cert.ReferenceIdeal.main_v92) i = v0 c i)
          ∧ (∀ i : (⟨4, ![323, 48, 64, 128]⟩ : Shape).Idx, (Cert.On_y_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 i = 1#1 → r.2.mem ((c.tc : Thread Cert.ReferenceIdeal.nD Cert.ReferenceIdeal.τ).loc Cert.ReferenceIdeal.main_v84) i = v1 c i)
          ∧ (∀ i : (⟨3, ![323, 48, 64]⟩ : Shape).Idx, (Cert.On_y_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2 i = 1#1 → r.2.mem ((c.tc : Thread Cert.ReferenceIdeal.nD Cert.ReferenceIdeal.τ).loc Cert.ReferenceIdeal.main_v91) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_slots_ok : Cert.Pre_slots_ok.Facts) (hPre_finite_ok : Cert.Pre_finite_ok.Facts) (hOn_y_only : Cert.On_y_only.Facts),
    quiescent_Kernel (hKernel := hKernel) (hPre_slots_ok := hPre_slots_ok)
    ∧ quiescent_KernelIdeal (hKernelIdeal := hKernelIdeal) (hPre_slots_ok := hPre_slots_ok)
    ∧ quiescent_KernelIdeal_pre_finite_ok (hKernelIdeal := hKernelIdeal) (hPre_finite_ok := hPre_finite_ok)
    ∧ quiescent_ReferenceIdeal (hReferenceIdeal := hReferenceIdeal)
    ∧ quiescent_ReferenceIdeal_pre_finite_ok (hReferenceIdeal := hReferenceIdeal) (hPre_finite_ok := hPre_finite_ok)
    ∧ preserves_Kernel_KernelIdeal
    ∧ algebraic_KernelIdeal_ReferenceIdeal_on_y_only_pre_finite_ok (hKernelIdeal := hKernelIdeal) (hReferenceIdeal := hReferenceIdeal) (hPre_finite_ok := hPre_finite_ok) (hOn_y_only := hOn_y_only)
-- ==== On_y_only.lean ====
abbrev S256x48x64 : Shape := ⟨3, ![256, 48, 64]⟩
abbrev S256x48 : Shape := ⟨2, ![256, 48]⟩
abbrev S48 : Shape := ⟨1, ![48]⟩
abbrev S256x1x128 : Shape := ⟨3, ![256, 1, 128]⟩
abbrev S323x48x64x128 : Shape := ⟨4, ![323, 48, 64, 128]⟩
abbrev S323x48x64 : Shape := ⟨3, ![323, 48, 64]⟩
abbrev S256 : Shape := ⟨1, ![256]⟩
abbrev S_ : Shape := ⟨0, ![]⟩

class Facts : Prop where
  bcast_S_S256x48x64 : S_.BroadcastsInDim S256x48x64 (![] : Fin 0 → Fin S256x48x64.rank)
  bcast_S_S323x48x64x128 : S_.BroadcastsInDim S323x48x64x128 (![] : Fin 0 → Fin S323x48x64x128.rank)
  bcast_S_S323x48x64 : S_.BroadcastsInDim S323x48x64 (![] : Fin 0 → Fin S323x48x64.rank)

variable [Facts]

def fn {F : FTy → Type} [FloatOps F] (main_arg0 : FVec F S256x48x64 .bf16) (main_arg1 : FVec F S256x48 .bf16) (main_arg2 : FVec F S48 .f32) (main_arg3 : FVec F S48 .f32) (main_arg4 : FVec F S256x1x128 .bf16) (main_arg5 : FVec F S256x1x128 .bf16) (main_arg6 : FVec F S48 .f32) (main_arg7 : FVec F S323x48x64x128 .fp8e4m3) (main_arg8 : FVec F S323x48x64 .f32) (main_arg9 : IVec S256 32) (main_arg10 : IVec S256 32) : IVec S256x48x64 1 × IVec S323x48x64x128 1 × IVec S323x48x64 1 :=
  let main_c : IVec S_ 1 := constantI S_ 1 1#1
  let main_v0 : IVec S256x48x64 1 := broadcastInDim S256x48x64 ![] bcast_S_S256x48x64 main_c
  let main_c_0 : IVec S_ 1 := constantI S_ 1 0#1
  let main_v1 : IVec S323x48x64x128 1 := broadcastInDim S323x48x64x128 ![] bcast_S_S323x48x64x128 main_c_0
  let main_c_1 : IVec S_ 1 := constantI S_ 1 0#1
  let main_v2 : IVec S323x48x64 1 := broadcastInDim S323x48x64 ![] bcast_S_S323x48x64 main_c_1
  (main_v0, main_v1, main_v2)
-- ==== Pre_finite_ok.lean ====
abbrev S256x48x64 : Shape := ⟨3, ![256, 48, 64]⟩
abbrev S256x48 : Shape := ⟨2, ![256, 48]⟩
abbrev S48 : Shape := ⟨1, ![48]⟩
abbrev S256x1x128 : Shape := ⟨3, ![256, 1, 128]⟩
abbrev S323x48x64x128 : Shape := ⟨4, ![323, 48, 64, 128]⟩
abbrev S323x48x64 : Shape := ⟨3, ![323, 48, 64]⟩
abbrev S256 : Shape := ⟨1, ![256]⟩
abbrev S_ : Shape := ⟨0, ![]⟩

class Facts : Prop where
  bcast_S_S256 : S_.BroadcastsInDim S256 (![] : Fin 0 → Fin S256.rank)
  bitsLt_bf16_f32 : FTy.bits .bf16 < FTy.bits .f32
  bcast_S_S256x48x64 : S_.BroadcastsInDim S256x48x64 (![] : Fin 0 → Fin S256x48x64.rank)
  bcast_S_S256x48 : S_.BroadcastsInDim S256x48 (![] : Fin 0 → Fin S256x48.rank)
  bcast_S_S48 : S_.BroadcastsInDim S48 (![] : Fin 0 → Fin S48.rank)
  bcast_S_S256x1x128 : S_.BroadcastsInDim S256x1x128 (![] : Fin 0 → Fin S256x1x128.rank)
  bcast_S_S323x48x64 : S_.BroadcastsInDim S323x48x64 (![] : Fin 0 → Fin S323x48x64.rank)

variable [Facts]

def fn_part1 {F : FTy → Type} [FloatOps F] (main_arg2 : FVec F S48 .f32) (main_arg4 : FVec F S256x1x128 .bf16) (main_arg5 : FVec F S256x1x128 .bf16) (main_arg8 : FVec F S323x48x64 .f32) (main_v10 : IVec S256 1) (main_v14 : IVec S256x48x64 1) (main_v16 : FVec F S256x48 .f32) (main_v17 : FVec F S256x48 .f32) : IVec S256 1 × IVec S256x48x64 1 × IVec S256x48 1 × IVec S48 1 × IVec S256x1x128 1 × IVec S256x1x128 1 × IVec S323x48x64 1 :=
  let main_v18 : IVec S256x48 1 := cmpf .olt main_v16 main_v17
  let main_v19 : FVec F S48 .f32 := Host.absf main_arg2
  let main_cst_4 : FVec F S_ .f32 := constant S_ .f32 0x7F800000#32
  let main_v20 : FVec F S48 .f32 := broadcastInDim S48 ![] bcast_S_S48 main_cst_4
  let main_v21 : IVec S48 1 := cmpf .olt main_v19 main_v20
  let main_v22 : FVec F S256x1x128 .f32 := (extf .f32 · bitsLt_bf16_f32) main_arg4
  let main_v23 : FVec F S256x1x128 .f32 := Host.absf main_v22
  let main_cst_5 : FVec F S_ .f32 := constant S_ .f32 0x7F800000#32
  let main_v24 : FVec F S256x1x128 .f32 := broadcastInDim S256x1x128 ![] bcast_S_S256x1x128 main_cst_5
  let main_v25 : IVec S256x1x128 1 := cmpf .olt main_v23 main_v24
  let main_v26 : FVec F S256x1x128 .f32 := (extf .f32 · bitsLt_bf16_f32) main_arg5
  let main_v27 : FVec F S256x1x128 .f32 := Host.absf main_v26
  let main_cst_6 : FVec F S_ .f32 := constant S_ .f32 0x7F800000#32
  let main_v28 : FVec F S256x1x128 .f32 := broadcastInDim S256x1x128 ![] bcast_S_S256x1x128 main_cst_6
  let main_v29 : IVec S256x1x128 1 := cmpf .olt main_v27 main_v28
  let main_cst_7 : FVec F S_ .f32 := constant S_ .f32 0x00000000#32
  let main_v30 : FVec F S323x48x64 .f32 := broadcastInDim S323x48x64 ![] bcast_S_S323x48x64 main_cst_7
  let main_v31 : IVec S323x48x64 1 := cmpf .oge main_arg8 main_v30
  let main_cst_8 : FVec F S_ .f32 := constant S_ .f32 0x7F800000#32
  let main_v32 : FVec F S323x48x64 .f32 := broadcastInDim S323x48x64 ![] bcast_S_S323x48x64 main_cst_8
  let main_v33 : IVec S323x48x64 1 := cmpf .olt main_arg8 main_v32
  let main_v34 : IVec S323x48x64 1 := andi main_v31 main_v33
  (main_v10, main_v14, main_v18, main_v21, main_v25, main_v29, main_v34)

def fn {F : FTy → Type} [FloatOps F] (main_arg0 : FVec F S256x48x64 .bf16) (main_arg1 : FVec F S256x48 .bf16) (main_arg2 : FVec F S48 .f32) (main_arg3 : FVec F S48 .f32) (main_arg4 : FVec F S256x1x128 .bf16) (main_arg5 : FVec F S256x1x128 .bf16) (main_arg6 : FVec F S48 .f32) (main_arg7 : FVec F S323x48x64x128 .fp8e4m3) (main_arg8 : FVec F S323x48x64 .f32) (main_arg9 : IVec S256 32) (main_arg10 : IVec S256 32) : IVec S256 1 × IVec S256x48x64 1 × IVec S256x48 1 × IVec S48 1 × IVec S256x1x128 1 × IVec S256x1x128 1 × IVec S323x48x64 1 :=
  let main_c : IVec S_ 32 := constantI S_ 32 0#32
  let main_v0 : IVec S256 32 := broadcastInDim S256 ![] bcast_S_S256 main_c
  let main_v1 : IVec S256 1 := cmpi .sge main_arg9 main_v0
  let main_c_0 : IVec S_ 32 := constantI S_ 32 323#32
  let main_v2 : IVec S256 32 := broadcastInDim S256 ![] bcast_S_S256 main_c_0
  let main_v3 : IVec S256 1 := cmpi .slt main_arg9 main_v2
  let main_v4 : IVec S256 1 := andi main_v1 main_v3
  let main_c_1 : IVec S_ 32 := constantI S_ 32 0#32
  let main_v5 : IVec S256 32 := broadcastInDim S256 ![] bcast_S_S256 main_c_1
  let main_v6 : IVec S256 1 := cmpi .sge main_arg10 main_v5
  let main_v7 : IVec S256 1 := andi main_v4 main_v6
  let main_c_2 : IVec S_ 32 := constantI S_ 32 323#32
  let main_v8 : IVec S256 32 := broadcastInDim S256 ![] bcast_S_S256 main_c_2
  let main_v9 : IVec S256 1 := cmpi .slt main_arg10 main_v8
  let main_v10 : IVec S256 1 := andi main_v7 main_v9
  let main_v11 : FVec F S256x48x64 .f32 := (extf .f32 · bitsLt_bf16_f32) main_arg0
  let main_v12 : FVec F S256x48x64 .f32 := Host.absf main_v11
  let main_cst : FVec F S_ .f32 := constant S_ .f32 0x7F800000#32
  let main_v13 : FVec F S256x48x64 .f32 := broadcastInDim S256x48x64 ![] bcast_S_S256x48x64 main_cst
  let main_v14 : IVec S256x48x64 1 := cmpf .olt main_v12 main_v13
  let main_v15 : FVec F S256x48 .f32 := (extf .f32 · bitsLt_bf16_f32) main_arg1
  let main_v16 : FVec F S256x48 .f32 := Host.absf main_v15
  let main_cst_3 : FVec F S_ .f32 := constant S_ .f32 0x7F800000#32
  let main_v17 : FVec F S256x48 .f32 := broadcastInDim S256x48 ![] bcast_S_S256x48 main_cst_3
  fn_part1 (F := F) main_arg2 main_arg4 main_arg5 main_arg8 main_v10 main_v14 main_v16 main_v17
-- ==== Pre_slots_ok.lean ====
abbrev S256x48x64 : Shape := ⟨3, ![256, 48, 64]⟩
abbrev S256x48 : Shape := ⟨2, ![256, 48]⟩
abbrev S48 : Shape := ⟨1, ![48]⟩
abbrev S256x1x128 : Shape := ⟨3, ![256, 1, 128]⟩
abbrev S323x48x64x128 : Shape := ⟨4, ![323, 48, 64, 128]⟩
abbrev S323x48x64 : Shape := ⟨3, ![323, 48, 64]⟩
abbrev S256 : Shape := ⟨1, ![256]⟩
abbrev S_ : Shape := ⟨0, ![]⟩

class Facts : Prop where
  bcast_S_S256 : S_.BroadcastsInDim S256 (![] : Fin 0 → Fin S256.rank)

variable [Facts]

def fn {F : FTy → Type} [FloatOps F] (main_arg0 : FVec F S256x48x64 .bf16) (main_arg1 : FVec F S256x48 .bf16) (main_arg2 : FVec F S48 .f32) (main_arg3 : FVec F S48 .f32) (main_arg4 : FVec F S256x1x128 .bf16) (main_arg5 : FVec F S256x1x128 .bf16) (main_arg6 : FVec F S48 .f32) (main_arg7 : FVec F S323x48x64x128 .fp8e4m3) (main_arg8 : FVec F S323x48x64 .f32) (main_arg9 : IVec S256 32) (main_arg10 : IVec S256 32) : IVec S256 1 :=
  let main_c : IVec S_ 32 := constantI S_ 32 0#32
  let main_v0 : IVec S256 32 := broadcastInDim S256 ![] bcast_S_S256 main_c
  let main_v1 : IVec S256 1 := cmpi .sge main_arg9 main_v0
  let main_c_0 : IVec S_ 32 := constantI S_ 32 323#32
  let main_v2 : IVec S256 32 := broadcastInDim S256 ![] bcast_S_S256 main_c_0
  let main_v3 : IVec S256 1 := cmpi .slt main_arg9 main_v2
  let main_v4 : IVec S256 1 := andi main_v1 main_v3
  let main_c_1 : IVec S_ 32 := constantI S_ 32 0#32
  let main_v5 : IVec S256 32 := broadcastInDim S256 ![] bcast_S_S256 main_c_1
  let main_v6 : IVec S256 1 := cmpi .sge main_arg10 main_v5
  let main_v7 : IVec S256 1 := andi main_v4 main_v6
  let main_c_2 : IVec S_ 32 := constantI S_ 32 323#32
  let main_v8 : IVec S256 32 := broadcastInDim S256 ![] bcast_S_S256 main_c_2
  let main_v9 : IVec S256 1 := cmpi .slt main_arg10 main_v8
  let main_v10 : IVec S256 1 := andi main_v7 main_v9
  main_v10
-- ==== Kernel.lean ====
abbrev S256x48x64 : Shape := ⟨3, ![256, 48, 64]⟩
abbrev S256x48 : Shape := ⟨2, ![256, 48]⟩
abbrev S48 : Shape := ⟨1, ![48]⟩
abbrev S256x1x128 : Shape := ⟨3, ![256, 1, 128]⟩
abbrev S323x48x64x128 : Shape := ⟨4, ![323, 48, 64, 128]⟩
abbrev S323x48x64 : Shape := ⟨3, ![323, 48, 64]⟩
abbrev S256 : Shape := ⟨1, ![256]⟩
abbrev S_ : Shape := ⟨0, ![]⟩
abbrev S323 : Shape := ⟨1, ![323]⟩
abbrev S256x1 : Shape := ⟨2, ![256, 1]⟩
abbrev S67 : Shape := ⟨1, ![67]⟩
abbrev S323x1 : Shape := ⟨2, ![323, 1]⟩
abbrev S1 : Shape := ⟨1, ![1]⟩
abbrev S2x24x1 : Shape := ⟨3, ![2, 24, 1]⟩
abbrev S24x2x1 : Shape := ⟨3, ![24, 2, 1]⟩
abbrev S24x2x64 : Shape := ⟨3, ![24, 2, 64]⟩
abbrev S24x128 : Shape := ⟨2, ![24, 128]⟩
abbrev S1x48 : Shape := ⟨2, ![1, 48]⟩
abbrev S1x48x64 : Shape := ⟨3, ![1, 48, 64]⟩
abbrev S1x1x128 : Shape := ⟨3, ![1, 1, 128]⟩
abbrev S1x48x64x128 : Shape := ⟨4, ![1, 48, 64, 128]⟩
abbrev S256x128 : Shape := ⟨2, ![256, 128]⟩
abbrev S144x256 : Shape := ⟨2, ![144, 256]⟩
abbrev S192x128 : Shape := ⟨2, ![192, 128]⟩
abbrev S24x128x128 : Shape := ⟨3, ![24, 128, 128]⟩
abbrev S256x16 : Shape := ⟨2, ![256, 16]⟩
abbrev S144x128 : Shape := ⟨2, ![144, 128]⟩
abbrev S1x128 : Shape := ⟨2, ![1, 128]⟩
abbrev S128x128 : Shape := ⟨2, ![128, 128]⟩
abbrev S48x64 : Shape := ⟨2, ![48, 64]⟩
abbrev S24x64 : Shape := ⟨2, ![24, 64]⟩
abbrev S1x1 : Shape := ⟨2, ![1, 1]⟩
abbrev S16x128 : Shape := ⟨2, ![16, 128]⟩
abbrev S8x128 : Shape := ⟨2, ![8, 128]⟩
abbrev S1x1x64x128 : Shape := ⟨4, ![1, 1, 64, 128]⟩
abbrev S64x128 : Shape := ⟨2, ![64, 128]⟩
abbrev S144x144 : Shape := ⟨2, ![144, 144]⟩
abbrev S1x128x128 : Shape := ⟨3, ![1, 128, 128]⟩
abbrev S1x24x128 : Shape := ⟨3, ![1, 24, 128]⟩
abbrev S1x1x1 : Shape := ⟨3, ![1, 1, 1]⟩
abbrev S128 : Shape := ⟨1, ![128]⟩

abbrev nBuf : Space → Nat
  | .hbm => 105
  | .vmem => 27
  | .smem => 2
  | _ => 0

abbrev bufTy : (tb : Table) → Fin (tcTables nBuf tb) → BufTy
  | .hbm, ⟨0, _⟩ => ⟨S256x48x64, .bf16⟩
  | .hbm, ⟨1, _⟩ => ⟨S256x48, .bf16⟩
  | .hbm, ⟨2, _⟩ => ⟨S48, .f32⟩
  | .hbm, ⟨3, _⟩ => ⟨S48, .f32⟩
  | .hbm, ⟨4, _⟩ => ⟨S256x1x128, .bf16⟩
  | .hbm, ⟨5, _⟩ => ⟨S256x1x128, .bf16⟩
  | .hbm, ⟨6, _⟩ => ⟨S48, .f32⟩
  | .hbm, ⟨7, _⟩ => ⟨S323x48x64x128, .fp8e4m3⟩
  | .hbm, ⟨8, _⟩ => ⟨S323x48x64, .f32⟩
  | .hbm, ⟨9, _⟩ => ⟨S256, .i32⟩
  | .hbm, ⟨10, _⟩ => ⟨S256, .i32⟩
  | .hbm, ⟨11, _⟩ => ⟨S_, .i1⟩
  | .hbm, ⟨12, _⟩ => ⟨S323, .i1⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S_, .i32⟩
  | .hbm, ⟨17, _⟩ => ⟨S256, .i32⟩
  | .hbm, ⟨18, _⟩ => ⟨S256, .i32⟩
  | .hbm, ⟨19, _⟩ => ⟨S256, .i32⟩
  | .hbm, ⟨20, _⟩ => ⟨S256x1, .i32⟩
  | .hbm, ⟨21, _⟩ => ⟨S_, .i1⟩
  | .hbm, ⟨22, _⟩ => ⟨S256, .i1⟩
  | .hbm, ⟨23, _⟩ => ⟨S323, .i1⟩
  | .hbm, ⟨24, _⟩ => ⟨S323, .i1⟩
  | .hbm, ⟨25, _⟩ => ⟨S323, .i32⟩
  | .hbm, ⟨26, _⟩ => ⟨S_, .i32⟩
  | .hbm, ⟨27, _⟩ => ⟨S_, .i32⟩
  | .hbm, ⟨28, _⟩ => ⟨S323, .i32⟩
  | .hbm, ⟨29, _⟩ => ⟨S_, .i32⟩
  | .hbm, ⟨30, _⟩ => ⟨S67, .i32⟩
  | .hbm, ⟨31, _⟩ => ⟨S_, .i32⟩
  | .hbm, ⟨32, _⟩ => ⟨S323, .i32⟩
  | .hbm, ⟨33, _⟩ => ⟨S323, .i1⟩
  | .hbm, ⟨34, _⟩ => ⟨S_, .i32⟩
  | .hbm, ⟨35, _⟩ => ⟨S323, .i32⟩
  | .hbm, ⟨36, _⟩ => ⟨S323, .i32⟩
  | .hbm, ⟨37, _⟩ => ⟨S323, .i32⟩
  | .hbm, ⟨38, _⟩ => ⟨S323x1, .i32⟩
  | .hbm, ⟨39, _⟩ => ⟨S_, .i32⟩
  | .hbm, ⟨40, _⟩ => ⟨S323, .i32⟩
  | .hbm, ⟨41, _⟩ => ⟨S67, .i32⟩
  | .hbm, ⟨42, _⟩ => ⟨S_, .i32⟩
  | .hbm, ⟨43, _⟩ => ⟨S_, .i32⟩
  | .hbm, ⟨44, _⟩ => ⟨S67, .i32⟩
  | .hbm, ⟨45, _⟩ => ⟨S_, .i32⟩
  | .hbm, ⟨46, _⟩ => ⟨S_, .i32⟩
  | .hbm, ⟨47, _⟩ => ⟨S67, .i32⟩
  | .hbm, ⟨48, _⟩ => ⟨S67, .i32⟩
  | .hbm, ⟨49, _⟩ => ⟨S67, .i32⟩
  | .hbm, ⟨50, _⟩ => ⟨S_, .i32⟩
  | .hbm, ⟨51, _⟩ => ⟨S67, .i32⟩
  | .hbm, ⟨52, _⟩ => ⟨S67, .i1⟩
  | .hbm, ⟨53, _⟩ => ⟨S67, .i32⟩
  | .hbm, ⟨54, _⟩ => ⟨S67, .i32⟩
  | .hbm, ⟨55, _⟩ => ⟨S_, .i32⟩
  | .hbm, ⟨56, _⟩ => ⟨S67, .i32⟩
  | .hbm, ⟨57, _⟩ => ⟨S67, .i1⟩
  | .hbm, ⟨58, _⟩ => ⟨S67, .i1⟩
  | .hbm, ⟨59, _⟩ => ⟨S_, .i32⟩
  | .hbm, ⟨60, _⟩ => ⟨S67, .i32⟩
  | .hbm, ⟨61, _⟩ => ⟨S67, .i32⟩
  | .hbm, ⟨62, _⟩ => ⟨S67, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S67, .i32⟩
  | .hbm, ⟨70, _⟩ => ⟨S67, .i32⟩
  | .hbm, ⟨71, _⟩ => ⟨S_, .i32⟩
  | .hbm, ⟨72, _⟩ => ⟨S67, .i32⟩
  | .hbm, ⟨73, _⟩ => ⟨S67, .i1⟩
  | .hbm, ⟨74, _⟩ => ⟨S_, .i32⟩
  | .hbm, ⟨75, _⟩ => ⟨S67, .i32⟩
  | .hbm, ⟨76, _⟩ => ⟨S67, .i1⟩
  | .hbm, ⟨77, _⟩ => ⟨S_, .i32⟩
  | .hbm, ⟨78, _⟩ => ⟨S_, .i1⟩
  | .hbm, ⟨79, _⟩ => ⟨S67, .i1⟩
  | .hbm, ⟨80, _⟩ => ⟨S67, .i1⟩
  | .hbm, ⟨81, _⟩ => ⟨S67, .i1⟩
  | .hbm, ⟨82, _⟩ => ⟨S67, .i32⟩
  | .hbm, ⟨83, _⟩ => ⟨S67, .i32⟩
  | .hbm, ⟨84, _⟩ => ⟨S67, .i32⟩
  | .hbm, ⟨85, _⟩ => ⟨S323, .i32⟩
  | .hbm, ⟨86, _⟩ => ⟨S_, .i32⟩
  | .hbm, ⟨87, _⟩ => ⟨S_, .i32⟩
  | .hbm, ⟨88, _⟩ => ⟨S1, .i32⟩
  | .hbm, ⟨89, _⟩ => ⟨S67, .i32⟩
  | .hbm, ⟨90, _⟩ => ⟨S67, .i32⟩
  | .hbm, ⟨91, _⟩ => ⟨S67, .i1⟩
  | .hbm, ⟨92, _⟩ => ⟨S_, .i32⟩
  | .hbm, ⟨93, _⟩ => ⟨S_, .i32⟩
  | .hbm, ⟨94, _⟩ => ⟨S67, .i32⟩
  | .hbm, ⟨95, _⟩ => ⟨S67, .i32⟩
  | .hbm, ⟨96, _⟩ => ⟨S2x24x1, .f32⟩
  | .hbm, ⟨97, _⟩ => ⟨S24x2x1, .f32⟩
  | .hbm, ⟨98, _⟩ => ⟨S24x2x64, .f32⟩
  | .hbm, ⟨99, _⟩ => ⟨S24x128, .f32⟩
  | .hbm, ⟨100, _⟩ => ⟨S1x48, .f32⟩
  | .hbm, ⟨101, _⟩ => ⟨S1x48, .f32⟩
  | .hbm, ⟨102, _⟩ => ⟨S256x48x64, .bf16⟩
  | .hbm, ⟨103, _⟩ => ⟨S323x48x64x128, .fp8e4m3⟩
  | .hbm, ⟨104, _⟩ => ⟨S323x48x64, .f32⟩
  | .local _ .vmem, ⟨0, _⟩ => ⟨S1x48x64, .bf16⟩
  | .local _ .vmem, ⟨1, _⟩ => ⟨S1x48x64, .bf16⟩
  | .local _ .vmem, ⟨2, _⟩ => ⟨S256x48, .bf16⟩
  | .local _ .vmem, ⟨3, _⟩ => ⟨S1x48, .f32⟩
  | .local _ .vmem, ⟨4, _⟩ => ⟨S1x48, .f32⟩
  | .local _ .vmem, ⟨5, _⟩ => ⟨S1x1x128, .bf16⟩
  | .local _ .vmem, ⟨6, _⟩ => ⟨S1x1x128, .bf16⟩
  | .local _ .vmem, ⟨7, _⟩ => ⟨S1x1x128, .bf16⟩
  | .local _ .vmem, ⟨8, _⟩ => ⟨S1x1x128, .bf16⟩
  | .local _ .vmem, ⟨9, _⟩ => ⟨S24x128, .f32⟩
  | .local _ .vmem, ⟨10, _⟩ => ⟨S1x48x64x128, .fp8e4m3⟩
  | .local _ .vmem, ⟨11, _⟩ => ⟨S1x48x64x128, .fp8e4m3⟩
  | .local _ .vmem, ⟨12, _⟩ => ⟨S1x48x64, .f32⟩
  | .local _ .vmem, ⟨13, _⟩ => ⟨S1x48x64, .f32⟩
  | .local _ .vmem, ⟨14, _⟩ => ⟨S1x48x64, .bf16⟩
  | .local _ .vmem, ⟨15, _⟩ => ⟨S1x48x64, .bf16⟩
  | .local _ .vmem, ⟨16, _⟩ => ⟨S1x48x64x128, .fp8e4m3⟩
  | .local _ .vmem, ⟨17, _⟩ => ⟨S1x48x64x128, .fp8e4m3⟩
  | .local _ .vmem, ⟨18, _⟩ => ⟨S1x48x64, .f32⟩
  | .local _ .vmem, ⟨19, _⟩ => ⟨S1x48x64, .f32⟩
  | .local _ .vmem, ⟨20, _⟩ => ⟨S256x128, .f32⟩
  | .local _ .vmem, ⟨21, _⟩ => ⟨S144x256, .bf16⟩
  | .local _ .vmem, ⟨22, _⟩ => ⟨S192x128, .f32⟩
  | .local _ .vmem, ⟨23, _⟩ => ⟨S24x128x128, .f32⟩
  | .local _ .vmem, ⟨24, _⟩ => ⟨S192x128, .f32⟩
  | .local _ .vmem, ⟨25, _⟩ => ⟨S24x128, .f32⟩
  | .local _ .vmem, ⟨26, _⟩ => ⟨S24x128, .f32⟩
  | .local _ .smem, ⟨0, _⟩ => ⟨S323, .i32⟩
  | .local _ .smem, ⟨1, _⟩ => ⟨S323, .i32⟩
  | _, _ => ⟨S256x48x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_c_0 : Ref sig .tc := ⟨.hbm, 13, rfl⟩
abbrev main_v1 : Ref sig .tc := ⟨.hbm, 14, rfl⟩
abbrev main_v2 : Ref sig .tc := ⟨.hbm, 15, rfl⟩
abbrev main_c_1 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_call0_v0 : Ref sig .tc := ⟨.hbm, 25, rfl⟩
abbrev main_call0_call0_c : Ref sig .tc := ⟨.hbm, 26, rfl⟩
abbrev main_call0_call0_v0 : Ref sig .tc := ⟨.hbm, 27, rfl⟩
abbrev main_v10 : Ref sig .tc := ⟨.hbm, 28, rfl⟩
abbrev main_c_3 : Ref sig .tc := ⟨.hbm, 29, rfl⟩
abbrev main_v11 : Ref sig .tc := ⟨.hbm, 30, rfl⟩
abbrev main_c_4 : Ref sig .tc := ⟨.hbm, 31, rfl⟩
abbrev main_v12 : Ref sig .tc := ⟨.hbm, 32, rfl⟩
abbrev main_v13 : Ref sig .tc := ⟨.hbm, 33, rfl⟩
abbrev main_c_5 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_6 : Ref sig .tc := ⟨.hbm, 39, rfl⟩
abbrev main_v18 : Ref sig .tc := ⟨.hbm, 40, rfl⟩
abbrev main_v19 : Ref sig .tc := ⟨.hbm, 41, rfl⟩
abbrev main_call1_call0_c : Ref sig .tc := ⟨.hbm, 42, rfl⟩
abbrev main_call1_call0_v0 : Ref sig .tc := ⟨.hbm, 43, rfl⟩
abbrev main_v20 : Ref sig .tc := ⟨.hbm, 44, rfl⟩
abbrev main_c_7 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_c : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_0 : Ref sig .tc := ⟨.hbm, 59, rfl⟩
abbrev main_call2_v12 : Ref sig .tc := ⟨.hbm, 60, rfl⟩
abbrev main_call2_v13 : Ref sig .tc := ⟨.hbm, 61, rfl⟩
abbrev main_v21 : Ref sig .tc := ⟨.hbm, 62, rfl⟩
abbrev main_c_8 : Ref sig .tc := ⟨.hbm, 63, rfl⟩
abbrev main_call3_v0 : Ref sig .tc := ⟨.hbm, 64, rfl⟩
abbrev main_call3_c : Ref sig .tc := ⟨.hbm, 65, rfl⟩
abbrev main_call3_v1 : Ref sig .tc := ⟨.hbm, 66, rfl⟩
abbrev main_call3_c_0 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_c_1 : Ref sig .tc := ⟨.hbm, 71, rfl⟩
abbrev main_call3_v5 : Ref sig .tc := ⟨.hbm, 72, rfl⟩
abbrev main_call3_v6 : Ref sig .tc := ⟨.hbm, 73, rfl⟩
abbrev main_call3_c_2 : Ref sig .tc := ⟨.hbm, 74, rfl⟩
abbrev main_call3_v7 : Ref sig .tc := ⟨.hbm, 75, rfl⟩
abbrev main_call3_v8 : Ref sig .tc := ⟨.hbm, 76, rfl⟩
abbrev main_call3_c_3 : Ref sig .tc := ⟨.hbm, 77, rfl⟩
abbrev main_call3_v9 : Ref sig .tc := ⟨.hbm, 78, rfl⟩
abbrev main_call3_v10 : Ref sig .tc := ⟨.hbm, 79, rfl⟩
abbrev main_call3_v11 : Ref sig .tc := ⟨.hbm, 80, rfl⟩
abbrev main_call3_v12 : Ref sig .tc := ⟨.hbm, 81, rfl⟩
abbrev main_call3_v13 : Ref sig .tc := ⟨.hbm, 82, rfl⟩
abbrev main_call3_v14 : Ref sig .tc := ⟨.hbm, 83, rfl⟩
abbrev main_v22 : Ref sig .tc := ⟨.hbm, 84, rfl⟩
abbrev main_v23 : Ref sig .tc := ⟨.hbm, 85, rfl⟩
abbrev main_c_9 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_c_10 : Ref sig .tc := ⟨.hbm, 92, rfl⟩
abbrev main_call4_v0 : Ref sig .tc := ⟨.hbm, 93, rfl⟩
abbrev main_call4_v1 : Ref sig .tc := ⟨.hbm, 94, rfl⟩
abbrev main_v29 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38_0 : Ref sig .tc := ⟨.hbm, 102, rfl⟩
abbrev main_v38_1 : Ref sig .tc := ⟨.hbm, 103, rfl⟩
abbrev main_v38_2 : Ref sig .tc := ⟨.hbm, 104, rfl⟩
abbrev main_v30 : Ref sig .tc := ⟨.smem, 0, rfl⟩
abbrev main_v31 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![323], ![false]⟩

abbrev pre0 : Pipeline.Prefetch sig := ⟨2, ![main_v30.idx, main_v31.idx], fun | 0 => main_v30.names | 1 => main_v31.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg0 : BitVec 32 := BitVec.ofNat 32 (i 0).val
  let c256_i32_2 : BitVec 32 := 256#32
  let v6 : BitVec 1 := Scalar.cmpi .slt arg0 c256_i32_2
  let v7 : BitVec 32 := Scalar.extui v6
  let c0_i32_3 : BitVec 32 := 0#32
  let v8 : BitVec 1 := Scalar.cmpi .ne v7 c0_i32_3
  v8

def k0_off2 (i : grid0.Coords) : Fin 2 → Nat :=
  let arg0 : BitVec 32 := BitVec.ofNat 32 (i 0).val
  let v10 : Index := Scalar.indexCast arg0
  let c0 : Index := 0#32
  ![v10.toNat, 0]
@[reducible] def k0_t1_loop : Scf.Loop 32 :=
  let c0_i32_827 : BitVec 32 := 0#32
  let c24_i32 : BitVec 32 := 24#32
  let v2414 : BitVec 32 := Scalar.addi c0_i32_827 c24_i32
  let c1_i32_828 : BitVec 32 := 1#32
  ⟨c0_i32_827, v2414, c1_i32_828⟩
def k0_off3 (k0_t1 : Fin k0_t1_loop.trips) : Fin 4 → Nat :=
  let c0_835 : Index := 0#32
  let c0_i32_827 : BitVec 32 := 0#32
  let c1_i32_828 : BitVec 32 := 1#32
  let arg22 : BitVec 32 := Scf.iv c0_i32_827 c1_i32_828 k0_t1
  let v2422 : Index := Scalar.indexCast arg22
  let c0_836 : Index := 0#32
  let c0_837 : Index := 0#32
  ![0, v2422.toNat, 0, 0]
def k0_off4 (k0_t1 : Fin k0_t1_loop.trips) : Fin 4 → Nat :=
  let c0_839 : Index := 0#32
  let c0_i32_827 : BitVec 32 := 0#32
  let c1_i32_828 : BitVec 32 := 1#32
  let arg22 : BitVec 32 := Scf.iv c0_i32_827 c1_i32_828 k0_t1
  let c24_i32_838 : BitVec 32 := 24#32
  let v2425 : BitVec 32 := Scalar.addi arg22 c24_i32_838
  let v2426 : Index := Scalar.indexCast v2425
  let c0_840 : Index := 0#32
  let c0_841 : Index := 0#32
  ![0, v2426.toNat, 0, 0]
def k0_off5 (k0_t1 : Fin k0_t1_loop.trips) : Fin 2 → Nat :=
  let c0_i32_827 : BitVec 32 := 0#32
  let c1_i32_828 : BitVec 32 := 1#32
  let arg22 : BitVec 32 := Scf.iv c0_i32_827 c1_i32_828 k0_t1
  let v2432 : Index := Scalar.indexCast arg22
  let c0_842 : Index := 0#32
  ![v2432.toNat, 0]
def k0_off6 (k0_t1 : Fin k0_t1_loop.trips) : Fin 2 → Nat :=
  let c8_i32_843 : BitVec 32 := 8#32
  let c0_i32_827 : BitVec 32 := 0#32
  let c1_i32_828 : BitVec 32 := 1#32
  let arg22 : BitVec 32 := Scf.iv c0_i32_827 c1_i32_828 k0_t1
  let v2436 : BitVec 32 := Scalar.muli c8_i32_843 arg22
  let v2437 : Index := Scalar.indexCast v2436
  let c0_844 : Index := 0#32
  ![v2437.toNat, 0]
def k0_cond2 (i : grid0.Coords) : BitVec 1 :=
  let arg0 : BitVec 32 := BitVec.ofNat 32 (i 0).val
  let c256_i32 : BitVec 32 := 256#32
  let v3 : BitVec 1 := Scalar.cmpi .sge arg0 c256_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let c255_i32 : BitVec 32 := 255#32
  let v0 : BitVec 32 := Scalar.minsi arg0 c255_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c255_i32 : BitVec 32 := 255#32
  let v0 : BitVec 32 := Scalar.minsi arg0 c255_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 3 → Nat :=
  let arg0 : BitVec 32 := BitVec.ofNat 32 (i 0).val
  let c255_i32 : BitVec 32 := 255#32
  let v0 : BitVec 32 := Scalar.minsi arg0 c255_i32
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (k0_off1_inb : ∀ i : grid0.Coords, ∀ a, (k0_off1 i) a + S1.size a ≤ S323.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S323) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_8 (k0_off1_inb : ∀ i : grid0.Coords, ∀ a, (k0_off1 i) a + S1.size a ≤ S323.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S323) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_9 (i : grid0.Coords) : Fin 3 → Nat :=
  let arg0 : BitVec 32 := BitVec.ofNat 32 (i 0).val
  let c255_i32 : BitVec 32 := 255#32
  let v0 : BitVec 32 := Scalar.minsi arg0 c255_i32
  let c0_i32 : BitVec 32 := 0#32
  let c0_i32_0 : BitVec 32 := 0#32
  let c0_i32_1 : BitVec 32 := 0#32
  ![v0.toNat, c0_i32.toNat, c0_i32_0.toNat]

def cc0_transform_10 (k0_off1_inb : ∀ i : grid0.Coords, ∀ a, (k0_off1 i) a + S1.size a ≤ S323.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S323) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_11 (k0_off1_inb : ∀ i : grid0.Coords, ∀ a, (k0_off1 i) a + S1.size a ≤ S323.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S323) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x48x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x48 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S24x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x48x64x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x48x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x48x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x48x64x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x48x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S256x48x64 : Shape := ⟨3, ![256, 48, 64]⟩
abbrev S256x48 : Shape := ⟨2, ![256, 48]⟩
abbrev S48 : Shape := ⟨1, ![48]⟩
abbrev S256x1x128 : Shape := ⟨3, ![256, 1, 128]⟩
abbrev S323x48x64x128 : Shape := ⟨4, ![323, 48, 64, 128]⟩
abbrev S323x48x64 : Shape := ⟨3, ![323, 48, 64]⟩
abbrev S256 : Shape := ⟨1, ![256]⟩
abbrev S253 : Shape := ⟨1, ![253]⟩
abbrev S_ : Shape := ⟨0, ![]⟩
abbrev S256x1 : Shape := ⟨2, ![256, 1]⟩
abbrev S256x48x64x128 : Shape := ⟨4, ![256, 48, 64, 128]⟩
abbrev S256x48x64x1 : Shape := ⟨4, ![256, 48, 64, 1]⟩
abbrev S1x48 : Shape := ⟨2, ![1, 48]⟩
abbrev S256x1x48x128 : Shape := ⟨4, ![256, 1, 48, 128]⟩
abbrev S256x48x128 : Shape := ⟨3, ![256, 48, 128]⟩
abbrev S256x48x1x1 : Shape := ⟨4, ![256, 48, 1, 1]⟩
abbrev S256x48x1 : Shape := ⟨3, ![256, 48, 1]⟩
abbrev S256x48x1x128 : Shape := ⟨4, ![256, 48, 1, 128]⟩
abbrev S1x48x1 : Shape := ⟨3, ![1, 48, 1]⟩
abbrev S1x1x1x253 : Shape := ⟨4, ![1, 1, 1, 253]⟩
abbrev S256x48x64x253 : Shape := ⟨4, ![256, 48, 64, 253]⟩

abbrev nBuf : Space → Nat
  | .hbm => 146
  | .vmem => 2
  | .smem => 0
  | _ => 0

abbrev hbmTy0_0 (i : Nat) : BufTy := match i % 128 with
  | 0 => ⟨S256x48x64, .bf16⟩
  | 1 => ⟨S256x48, .bf16⟩
  | 2 => ⟨S48, .f32⟩
  | 3 => ⟨S48, .f32⟩
  | 4 => ⟨S256x1x128, .bf16⟩
  | 5 => ⟨S256x1x128, .bf16⟩
  | 6 => ⟨S48, .f32⟩
  | 7 => ⟨S323x48x64x128, .fp8e4m3⟩
  | 8 => ⟨S323x48x64, .f32⟩
  | 9 => ⟨S256, .i32⟩
  | 10 => ⟨S256, .i32⟩
  | 11 => ⟨S253, .f32⟩
  | 12 => ⟨S_, .i32⟩
  | 13 => ⟨S256, .i32⟩
  | 14 => ⟨S256, .i1⟩
  | 15 => ⟨S_, .i32⟩
  | 16 => ⟨S256, .i32⟩
  | 17 => ⟨S256, .i32⟩
  | 18 => ⟨S256, .i32⟩
  | 19 => ⟨S256x1, .i32⟩
  | 20 => ⟨S256x48x64x128, .fp8e4m3⟩
  | 21 => ⟨S256x48x64x128, .f32⟩
  | 22 => ⟨S_, .i32⟩
  | 23 => ⟨S256, .i32⟩
  | 24 => ⟨S256, .i1⟩
  | 25 => ⟨S_, .i32⟩
  | 26 => ⟨S256, .i32⟩
  | 27 => ⟨S256, .i32⟩
  | 28 => ⟨S256, .i32⟩
  | 29 => ⟨S256x1, .i32⟩
  | 30 => ⟨S256x48x64, .f32⟩
  | 31 => ⟨S256x48x64x1, .f32⟩
  | 32 => ⟨S256x48x64x128, .f32⟩
  | 33 => ⟨S256x48x64x128, .f32⟩
  | 34 => ⟨S256x48, .f32⟩
  | 35 => ⟨S1x48, .f32⟩
  | 36 => ⟨S256x48, .f32⟩
  | 37 => ⟨S256x48, .f32⟩
  | 38 => ⟨S_, .f32⟩
  | 39 => ⟨S256x48, .f32⟩
  | 40 => ⟨S256x48, .f32⟩
  | 41 => ⟨S256x48, .f32⟩
  | 42 => ⟨S256x48, .f32⟩
  | 43 => ⟨S256x48, .i1⟩
  | 44 => ⟨S256x48, .f32⟩
  | 45 => ⟨S256x48, .f32⟩
  | 46 => ⟨S256x48, .f32⟩
  | 47 => ⟨S256x48, .f32⟩
  | 48 => ⟨S256x48, .f32⟩
  | 49 => ⟨S256x48, .f32⟩
  | 50 => ⟨S256x48, .f32⟩
  | 51 => ⟨S256x48, .f32⟩
  | 52 => ⟨S48, .f32⟩
  | 53 => ⟨S1x48, .f32⟩
  | 54 => ⟨S1x48, .f32⟩
  | 55 => ⟨S256x48, .f32⟩
  | 56 => ⟨S256x48, .f32⟩
  | 57 => ⟨S256x48, .f32⟩
  | 58 => ⟨S256x1x128, .f32⟩
  | 59 => ⟨S256x1x48x128, .f32⟩
  | 60 => ⟨S256x48x128, .f32⟩
  | 61 => ⟨S256x1x128, .f32⟩
  | 62 => ⟨S256x1x48x128, .f32⟩
  | 63 => ⟨S256x48x128, .f32⟩
  | 64 => ⟨S256x48x64, .f32⟩
  | 65 => ⟨S256x48x1x1, .f32⟩
  | 66 => ⟨S256x48x64x128, .f32⟩
  | 67 => ⟨S256x48x64x128, .f32⟩
  | 68 => ⟨S256x48x1, .f32⟩
  | 69 => ⟨S256x48x64, .f32⟩
  | 70 => ⟨S256x48x64, .f32⟩
  | 71 => ⟨S256x48x64x1, .f32⟩
  | 72 => ⟨S256x48x1x128, .f32⟩
  | 73 => ⟨S256x48x64x128, .f32⟩
  | 74 => ⟨S256x48x64x128, .f32⟩
  | 75 => ⟨S256x48x64x128, .f32⟩
  | 76 => ⟨S256x48x64x128, .f32⟩
  | 77 => ⟨S256x48x1x128, .f32⟩
  | 78 => ⟨S256x48x64x128, .f32⟩
  | 79 => ⟨S256x48x64x128, .f32⟩
  | 80 => ⟨S_, .f32⟩
  | 81 => ⟨S256x48x64, .f32⟩
  | 82 => ⟨S1x48x1, .f32⟩
  | 83 => ⟨S256x48x64, .f32⟩
  | 84 => ⟨S256x48x64, .f32⟩
  | 85 => ⟨S256x48x64, .f32⟩
  | 86 => ⟨S256x48x64x128, .f32⟩
  | 87 => ⟨S_, .f32⟩
  | 88 => ⟨S256x48x64, .f32⟩
  | 89 => ⟨S_, .f32⟩
  | 90 => ⟨S256x48x64, .f32⟩
  | 91 => ⟨S256x48x64, .f32⟩
  | 92 => ⟨S256x48x64x1, .f32⟩
  | 93 => ⟨S1x1x1x253, .f32⟩
  | 94 => ⟨S256x48x64x253, .f32⟩
  | 95 => ⟨S256x48x64x253, .f32⟩
  | 96 => ⟨S256x48x64x253, .i1⟩
  | 97 => ⟨S_, .f32⟩
  | 98 => ⟨S_, .f32⟩
  | 99 => ⟨S256x48x64x253, .f32⟩
  | 100 => ⟨S256x48x64x253, .f32⟩
  | 101 => ⟨S256x48x64x253, .f32⟩
  | 102 => ⟨S_, .f32⟩
  | 103 => ⟨S256x48x64, .f32⟩
  | 104 => ⟨S_, .f32⟩
  | 105 => ⟨S256x48x64, .f32⟩
  | 106 => ⟨S256x48x64, .i1⟩
  | 107 => ⟨S_, .f32⟩
  | 108 => ⟨S256x48x64, .f32⟩
  | 109 => ⟨S256x48x64, .i1⟩
  | 110 => ⟨S256x48x64, .i1⟩
  | 111 => ⟨S_, .f32⟩
  | 112 => ⟨S_, .f32⟩
  | 113 => ⟨S256x48x64, .f32⟩
  | 114 => ⟨S256x48x64, .f32⟩
  | 115 => ⟨S256x48x64x1, .f32⟩
  | 116 => ⟨S256x48x64x128, .f32⟩
  | 117 => ⟨S256x48x64x128, .f32⟩
  | 118 => ⟨S_, .f32⟩
  | 119 => ⟨S_, .f32⟩
  | 120 => ⟨S_, .f32⟩
  | 121 => ⟨S256x48x64x128, .f32⟩
  | 122 => ⟨S256x48x64x128, .f32⟩
  | 123 => ⟨S_, .f32⟩
  | 124 => ⟨S256x48x64x128, .f32⟩
  | 125 => ⟨S256x48x64x128, .f32⟩
  | 126 => ⟨S256x48x64x128, .fp8e4m3⟩
  | 127 => ⟨S_, .i32⟩
  | _ => ⟨S256x48x64, .bf16⟩

abbrev hbmTy0_1 (i : Nat) : BufTy := match i % 128 with
  | 0 => ⟨S256, .i32⟩
  | 1 => ⟨S256, .i1⟩
  | 2 => ⟨S_, .i32⟩
  | 3 => ⟨S256, .i32⟩
  | 4 => ⟨S256, .i32⟩
  | 5 => ⟨S256, .i32⟩
  | 6 => ⟨S256x1, .i32⟩
  | 7 => ⟨S323x48x64x128, .fp8e4m3⟩
  | 8 => ⟨S_, .i32⟩
  | 9 => ⟨S256, .i32⟩
  | 10 => ⟨S256, .i1⟩
  | 11 => ⟨S_, .i32⟩
  | 12 => ⟨S256, .i32⟩
  | 13 => ⟨S256, .i32⟩
  | 14 => ⟨S256, .i32⟩
  | 15 => ⟨S256x1, .i32⟩
  | 16 => ⟨S323x48x64, .f32⟩
  | 17 => ⟨S256x48x64, .bf16⟩
  | _ => ⟨S256x48x64, .bf16⟩

abbrev hbmTy (i : Nat) : BufTy := match i / 128 with
  | 0 => hbmTy0_0 i
  | 1 => hbmTy0_1 i
  | _ => ⟨S256x48x64, .bf16⟩

abbrev bufTy : (tb : Table) → Fin (tcTables nBuf tb) → BufTy
  | .hbm, ⟨i, _⟩ => hbmTy i
  | .local _ .vmem, ⟨0, _⟩ => ⟨S256x48x64x128, .fp8e4m3⟩
  | .local _ .vmem, ⟨1, _⟩ => ⟨S256x48x64x128, .f32⟩
  | _, _ => ⟨S256x48x64, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_3 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_4 : Ref sig .tc := ⟨.hbm, 87, rfl⟩
abbrev main_v57 : Ref sig .tc := ⟨.hbm, 88, rfl⟩
abbrev main_cst_5 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_6 : Ref sig .tc := ⟨.hbm, 97, rfl⟩
abbrev main_call1_v0 : Ref sig .tc := ⟨.hbm, 98, rfl⟩
abbrev main_call1_v1 : Ref sig .tc := ⟨.hbm, 99, rfl⟩
abbrev main_call1_v2 : Ref sig .tc := ⟨.hbm, 100, rfl⟩
abbrev main_v65 : Ref sig .tc := ⟨.hbm, 101, rfl⟩
abbrev main_cst_7 : Ref sig .tc := ⟨.hbm, 102, rfl⟩
abbrev main_v66 : Ref sig .tc := ⟨.hbm, 103, rfl⟩
abbrev main_cst_8 : Ref sig .tc := ⟨.hbm, 104, rfl⟩
abbrev main_v67 : Ref sig .tc := ⟨.hbm, 105, rfl⟩
abbrev main_v68 : Ref sig .tc := ⟨.hbm, 106, rfl⟩
abbrev main_cst_9 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_10 : Ref sig .tc := ⟨.hbm, 111, rfl⟩
abbrev main_call2_v0 : Ref sig .tc := ⟨.hbm, 112, rfl⟩
abbrev main_call2_v1 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_11 : Ref sig .tc := ⟨.hbm, 118, rfl⟩
abbrev main_cst_12 : Ref sig .tc := ⟨.hbm, 119, rfl⟩
abbrev main_call3_v0 : Ref sig .tc := ⟨.hbm, 120, rfl⟩
abbrev main_call3_v1 : Ref sig .tc := ⟨.hbm, 121, rfl⟩
abbrev main_call3_v2 : Ref sig .tc := ⟨.hbm, 122, rfl⟩
abbrev main_call3_v3 : Ref sig .tc := ⟨.hbm, 123, rfl⟩
abbrev main_call3_v4 : Ref sig .tc := ⟨.hbm, 124, rfl⟩
abbrev main_v76 : Ref sig .tc := ⟨.hbm, 125, rfl⟩
abbrev main_v77 : Ref sig .tc := ⟨.hbm, 126, rfl⟩
abbrev main_c_13 : Ref sig .tc := ⟨.hbm, 127, rfl⟩
abbrev main_v78 : Ref sig .tc := ⟨.hbm, 128, rfl⟩
abbrev main_v79 : Ref sig .tc := ⟨.hbm, 129, rfl⟩
abbrev main_c_14 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_c_15 : Ref sig .tc := ⟨.hbm, 136, rfl⟩
abbrev main_v85 : Ref sig .tc := ⟨.hbm, 137, rfl⟩
abbrev main_v86 : Ref sig .tc := ⟨.hbm, 138, rfl⟩
abbrev main_c_16 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S256x48x64x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x48x64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KernelRuns.lean ====
/- What the runs of the kernel share: the buffers the call finds, the tables, the windows' blocks, the three branch
   conditions in closed form over the grid, the staging and scratch buffers. -/
module

public import proofs.«01_k».proof.Proof.Gen.Kernel.Launch
public import proofs.«01_k».proof.Proof.Gen.Kernel.Skeleton
public import proofs.«01_k».proof.Proof.Gen.Kernel.Loops
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_ssu (grid0.coords t) (Memref.whole main_v30) (Memref.isWhole_whole _) (Memref.whole main_v31) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)

/-! ## @main up to the region -/

/-- Core `c`'s TensorCore buffers when the region is entered: after the host operations, stretch by stretch. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10]) (fun b => m (c, b)) b
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor

set_option maxHeartbeats 800000 in
/-- @main up to the region: the stretches of host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9, hostOps0_10] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S323 .i32 := Memref.whole main_v30
abbrev htbM0_0 : tbM0_0.IsWhole := Memref.isWhole_whole _
abbrev tbM0_1 : Memref sig .tc .smem S323 .i32 := Memref.whole main_v31
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      (Pipeline.RDat.FramePost.arr_in h c 4 rfl).trans ((hA c 4).trans (V_main_arg4 m c)),
      (Pipeline.RDat.FramePost.arr_in h c 5 rfl).trans ((hA c 5).trans (V_main_arg5 m c)),
      ((h c).2 main_arg6 (by decide : main_arg6 ∈ Pipeline.restRefs sig spec0)).trans (V_main_arg6 m c),
      (Pipeline.RDat.FramePost.arr_in h c 7 rfl).trans ((hA c 7).trans (V_main_arg7 m c)),
      (Pipeline.RDat.FramePost.arr_in h c 8 rfl).trans ((hA c 8).trans (V_main_arg8 m c)),
      ((h c).2 main_arg9 (by decide : main_arg9 ∈ Pipeline.restRefs sig spec0)).trans (V_main_arg9 m c),
      ((h c).2 main_arg10 (by decide : main_arg10 ∈ Pipeline.restRefs sig spec0)).trans (V_main_arg10 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin grid0.N, cond0_0 (grid0.coords t) ↔ t.val % 323 = 0 :=
  (fun t => by
    have ht : t.val < 323 := Nat.lt_of_lt_of_eq t.isLt N_0
    have e0 : (grid0.coords t 0).val = t.val / 1 % 323 := Pipeline.Grid.coords_val t 0 (by decide) rfl
    simp only [cond0_0, e0]
    word_cmp
   : ∀ t : Fin grid0.N, cond0_0 (grid0.coords t) ↔ t.val % 323 = 0)

/-- The condition of the body's `scf.if` 1 (`k0_h2`), from the grid coordinates (the skeleton's scalar
    chain substituted). -/
abbrev cond0_1 (i : grid0.Coords) : Prop := k0_cond2 i = 1#1
/-- It holds at the points from point 256 on — decided over the grid. -/
theorem hcond0_1 : ∀ t : Fin grid0.N, cond0_1 (grid0.coords t) ↔ 256 ≤ t.val :=
  (by decide +kernel : ∀ t : Fin grid0.N, cond0_1 (grid0.coords t) ↔ 256 ≤ t.val)

/-- The condition of the body's `scf.if` 2 (`k0_h3`), from the grid coordinates (the skeleton's scalar
    chain substituted). -/
abbrev cond0_2 (i : grid0.Coords) : Prop := k0_cond3 i = 1#1
/-- It holds at the points before point 256 — decided over the grid. -/
theorem hcond0_2 : ∀ t : Fin grid0.N, cond0_2 (grid0.coords t) ↔ t.val < 256 :=
  (by decide +kernel : ∀ t : Fin grid0.N, cond0_2 (grid0.coords t) ↔ t.val < 256)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 5 (grid0.coords t) = false)
/-- Window 6 is never idle (an input). -/
theorem liveAt0_6 (hO : Ok m) : ∀ t : Fin (cfgM m hO).N, (cfgM m hO).idle 6 (grid0.coords t) = false :=
  (fun _ => rfl : ∀ t : Fin grid0.N, idle0 6 (grid0.coords t) = false)
/-- Window 7 is never idle (an input). -/
theorem liveAt0_7 (hO : Ok m) : ∀ t : Fin (cfgM m hO).N, (cfgM m hO).idle 7 (grid0.coords t) = false :=
  (fun _ => rfl : ∀ t : Fin grid0.N, idle0 7 (grid0.coords t) = false)
/-- Window 8 is never idle (an input). -/
theorem liveAt0_8 (hO : Ok m) : ∀ t : Fin (cfgM m hO).N, (cfgM m hO).idle 8 (grid0.coords t) = false :=
  (fun _ => rfl : ∀ t : Fin grid0.N, idle0 8 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x48x64 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S256x48 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x48 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x48 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x128 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x128 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S24x128 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x48x64x128 .fp8e4m3 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x48x64 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x48x64 .bf16 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x48x64x128 .fp8e4m3 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x48x64 .f32 := spec0_11.stage ((cfgM m hO).slots t 11)
abbrev hs0_11 (hO : Ok m) (t : Fin (cfgM m hO).N) : (ms0_11 m hO t).IsWhole := hstage0_11 (((cfgM m hO).slots t 11).cast nbuf0_11)
/-- The scratch operands: whole scoped buffers of the kernel's own, passed beside the windows. -/
abbrev scM0_0 : Memref sig .tc .vmem S256x128 .f32 := Memref.whole cc0_scratch0
abbrev scM0_1 : Memref sig .tc .vmem S144x256 .bf16 := Memref.whole cc0_scratch1
abbrev scM0_2 : Memref sig .tc .vmem S192x128 .f32 := Memref.whole cc0_scratch2
abbrev scM0_3 : Memref sig .tc .vmem S24x128x128 .f32 := Memref.whole cc0_scratch3
abbrev scM0_4 : Memref sig .tc .vmem S192x128 .f32 := Memref.whole cc0_scratch4
abbrev scM0_5 : Memref sig .tc .vmem S24x128 .f32 := Memref.whole cc0_scratch5
abbrev scM0_6 : Memref sig .tc .vmem S24x128 .f32 := Memref.whole cc0_scratch6

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-- A goal on a conditional the run cannot decide: one goal for each branch. -/
theorem wp_ite_cases {c : Dev nD} {E : Set ℕ} {C : Prop} [Decidable C] {H : sProp (MT nD τ sig Unit (Elt F) ℕ (UR sig nD τ) ℕ)}
    {p q : Prog (TpuEff nD τ sig (Elt F) Λ₀ .tc) PUnit} {K : PUnit → sProp (MT nD τ sig Unit (Elt F) ℕ (UR sig nD τ) ℕ)}
    (hp : C → Entails' H (wp frame (wpE (defs₀ (F := F)) Variants.none c none) E p K))
    (hq : ¬C → Entails' H (wp frame (wpE (defs₀ (F := F)) Variants.none c none) E q K)) :
    Entails' H (wp frame (wpE (defs₀ (F := F)) Variants.none c none) E (if C then p else q) K) := by
  by_cases h : C
  · rw [if_pos h]; exact hp h
  · rw [if_neg h]; exact hq h

end Cert.Kernel.Gen

end
-- ==== Proof.KernelRunA.lean ====
/- The run of the body at the first point. -/
module

public import proofs.«01_k».proof.Proof.KernelRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken, `scf.if` 1 not taken, `scf.if` 2 taken: points 0): on whole staging memrefs — the inputs' at their contents,
    the FORGOTTEN outputs' (9, 10, 11) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg3 : Memref sig .tc .vmem S1x48x64 .bf16) (harg3 : arg3.IsWhole) (arg4 : Memref sig .tc .vmem S256x48 .bf16) (harg4 : arg4.IsWhole) (arg5 : Memref sig .tc .vmem S1x48 .f32) (harg5 : arg5.IsWhole) (arg6 : Memref sig .tc .vmem S1x48 .f32) (harg6 : arg6.IsWhole) (arg7 : Memref sig .tc .vmem S1x1x128 .bf16) (harg7 : arg7.IsWhole) (arg8 : Memref sig .tc .vmem S1x1x128 .bf16) (harg8 : arg8.IsWhole) (arg9 : Memref sig .tc .vmem S24x128 .f32) (harg9 : arg9.IsWhole) (arg10 : Memref sig .tc .vmem S1x48x64x128 .fp8e4m3) (harg10 : arg10.IsWhole) (arg11 : Memref sig .tc .vmem S1x48x64 .f32) (harg11 : arg11.IsWhole) (arg12 : Memref sig .tc .vmem S1x48x64 .bf16) (harg12 : arg12.IsWhole) (arg13 : Memref sig .tc .vmem S1x48x64x128 .fp8e4m3) (harg13 : arg13.IsWhole) (arg14 : Memref sig .tc .vmem S1x48x64 .f32) (harg14 : arg14.IsWhole) (arg15 : Memref sig .tc .vmem S256x128 .f32) (harg15 : arg15.IsWhole) (arg16 : Memref sig .tc .vmem S144x256 .bf16) (harg16 : arg16.IsWhole) (arg17 : Memref sig .tc .vmem S192x128 .f32) (harg17 : arg17.IsWhole) (arg18 : Memref sig .tc .vmem S24x128x128 .f32) (harg18 : arg18.IsWhole) (arg19 : Memref sig .tc .vmem S192x128 .f32) (harg19 : arg19.IsWhole) (arg20 : Memref sig .tc .vmem S24x128 .f32) (harg20 : arg20.IsWhole) (arg21 : Memref sig .tc .vmem S24x128 .f32) (harg21 : arg21.IsWhole) (hc0 : cond0_0 i) (hc1 : ¬cond0_1 i) (hc2 : cond0_2 i)
    (x0 : Vec F S1x48x64 .bf16) (x1 : Vec F S256x48 .bf16) (x2 : Vec F S1x48 .f32) (x3 : Vec F S1x48 .f32) (x4 : Vec F S1x1x128 .bf16) (x5 : Vec F S1x1x128 .bf16) (x6 : Vec F S24x128 .f32) (x7 : Vec F S1x48x64x128 .fp8e4m3) (x8 : Vec F S1x48x64 .f32) (xt0 : TbBuf0 (F := F) c tbM0_0) (xt1 : TbBuf0 (F := F) c tbM0_1) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ tbPt0 c tbM0_0 xt0 ∗ tbPt0 c tbM0_1 xt1) -∗ K ⟨⟩))
          ⊢ wp frame (wpE (defs₀ (F := F)) Variants.none c none) E (cc0_ssu i tbM0_0 htbM0_0 tbM0_1 htbM0_1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
    intro E K
    simp only [cc0_ssu_eq_skeleton]; unfold cc0_ssu_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2)
    refine wp_ite_cases ?_ ?_ <;> intro hb <;>
      sl_exec (disch := first | sl_exact hc0 | sl_exact hc1 | sl_exact hc2 | sl_exact hb)
    all_goals
     sl_step
     iapply Hk
     isplitl [H0]
     · iexists _; isplitr; · ipureintro; exact harg3.read_unread _
       iexact H0
     isplitl [H1]
     · iexists _; isplitr; · ipureintro; exact harg4.read_unread _
       iexact H1
     isplitl [H2]
     · iexists _; isplitr; · ipureintro; exact harg5.read_unread _
       iexact H2
     isplitl [H3]
     · iexists _; isplitr; · ipureintro; exact harg6.read_unread _
       iexact H3
     isplitl [H4]
     · iexists _; isplitr; · ipureintro; exact harg7.read_unread _
       iexact H4
     isplitl [H5]
     · iexists _; isplitr; · ipureintro; exact harg8.read_unread _
       iexact H5
     isplitl [H6]
     · iexists _; isplitr; · ipureintro; exact harg9.read_unread _
       iexact H6
     isplitl [H7]
     · iexists _; isplitr; · ipureintro; exact harg10.read_unread _
       iexact H7
     isplitl [H8]
     · iexists _; isplitr; · ipureintro; exact harg11.read_unread _
       iexact H8
     isplitl [H9]
     · iexists _, _; isplitr; swap; · iexact H9
       ipureintro; rfl
     isplitl [H10]
     · iexists _, _; isplitr; swap; · iexact H10
       ipureintro; rfl
     isplitl [H11]
     · iexists _, _; isplitr; swap; · iexact H11
       ipureintro; rfl
     isplitl [HS0]
     · iexists _, _; isplitr; swap; · iexact HS0
       ipureintro; rfl
     isplitl [HS1]
     · iexists _, _; isplitr; swap; · iexact HS1
       ipureintro; rfl
     isplitl [HS2]
     · iexists _, _; isplitr; swap; · iexact HS2
       ipureintro; rfl
     isplitl [HS3]
     · iexists _, _; isplitr; swap; · iexact HS3
       ipureintro; rfl
     isplitl [HS4]
     · iexists _, _; isplitr; swap; · iexact HS4
       ipureintro; rfl
     isplitl [HS5]
     · iexists _, _; isplitr; swap; · iexact HS5
       ipureintro; rfl
     isplitl [HS6]
     · iexists _, _; isplitr; swap; · iexact HS6
       ipureintro; rfl
     isplitl [HT0]; · iexact HT0
     iexact HT1

end Cert.Kernel.Gen

end
-- ==== Proof.KernelRunB.lean ====
/- The run of the body at points 1 to 255. -/
module

public import proofs.«01_k».proof.Proof.KernelRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken, `scf.if` 1 not taken, `scf.if` 2 taken: points 1, 2, … 255: 255 of 323): on whole staging memrefs — the inputs' at their contents,
    the FORGOTTEN outputs' (9, 10, 11) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg3 : Memref sig .tc .vmem S1x48x64 .bf16) (harg3 : arg3.IsWhole) (arg4 : Memref sig .tc .vmem S256x48 .bf16) (harg4 : arg4.IsWhole) (arg5 : Memref sig .tc .vmem S1x48 .f32) (harg5 : arg5.IsWhole) (arg6 : Memref sig .tc .vmem S1x48 .f32) (harg6 : arg6.IsWhole) (arg7 : Memref sig .tc .vmem S1x1x128 .bf16) (harg7 : arg7.IsWhole) (arg8 : Memref sig .tc .vmem S1x1x128 .bf16) (harg8 : arg8.IsWhole) (arg9 : Memref sig .tc .vmem S24x128 .f32) (harg9 : arg9.IsWhole) (arg10 : Memref sig .tc .vmem S1x48x64x128 .fp8e4m3) (harg10 : arg10.IsWhole) (arg11 : Memref sig .tc .vmem S1x48x64 .f32) (harg11 : arg11.IsWhole) (arg12 : Memref sig .tc .vmem S1x48x64 .bf16) (harg12 : arg12.IsWhole) (arg13 : Memref sig .tc .vmem S1x48x64x128 .fp8e4m3) (harg13 : arg13.IsWhole) (arg14 : Memref sig .tc .vmem S1x48x64 .f32) (harg14 : arg14.IsWhole) (arg15 : Memref sig .tc .vmem S256x128 .f32) (harg15 : arg15.IsWhole) (arg16 : Memref sig .tc .vmem S144x256 .bf16) (harg16 : arg16.IsWhole) (arg17 : Memref sig .tc .vmem S192x128 .f32) (harg17 : arg17.IsWhole) (arg18 : Memref sig .tc .vmem S24x128x128 .f32) (harg18 : arg18.IsWhole) (arg19 : Memref sig .tc .vmem S192x128 .f32) (harg19 : arg19.IsWhole) (arg20 : Memref sig .tc .vmem S24x128 .f32) (harg20 : arg20.IsWhole) (arg21 : Memref sig .tc .vmem S24x128 .f32) (harg21 : arg21.IsWhole) (hc0 : ¬cond0_0 i) (hc1 : ¬cond0_1 i) (hc2 : cond0_2 i)
    (x0 : Vec F S1x48x64 .bf16) (x1 : Vec F S256x48 .bf16) (x2 : Vec F S1x48 .f32) (x3 : Vec F S1x48 .f32) (x4 : Vec F S1x1x128 .bf16) (x5 : Vec F S1x1x128 .bf16) (x6 : Vec F S24x128 .f32) (x7 : Vec F S1x48x64x128 .fp8e4m3) (x8 : Vec F S1x48x64 .f32) (xt0 : TbBuf0 (F := F) c tbM0_0) (xt1 : TbBuf0 (F := F) c tbM0_1) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ tbPt0 c tbM0_0 xt0 ∗ tbPt0 c tbM0_1 xt1) -∗ K ⟨⟩))
          ⊢ wp frame (wpE (defs₀ (F := F)) Variants.none c none) E (cc0_ssu i tbM0_0 htbM0_0 tbM0_1 htbM0_1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
    intro E K
    simp only [cc0_ssu_eq_skeleton]; unfold cc0_ssu_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2)
    refine wp_ite_cases ?_ ?_ <;> intro hb <;>
      sl_exec (disch := first | sl_exact hc0 | sl_exact hc1 | sl_exact hc2 | sl_exact hb)
    all_goals
     sl_step
     iapply Hk
     isplitl [H0]
     · iexists _; isplitr; · ipureintro; exact harg3.read_unread _
       iexact H0
     isplitl [H1]
     · iexists _; isplitr; · ipureintro; exact harg4.read_unread _
       iexact H1
     isplitl [H2]
     · iexists _; isplitr; · ipureintro; exact harg5.read_unread _
       iexact H2
     isplitl [H3]
     · iexists _; isplitr; · ipureintro; exact harg6.read_unread _
       iexact H3
     isplitl [H4]
     · iexists _; isplitr; · ipureintro; exact harg7.read_unread _
       iexact H4
     isplitl [H5]
     · iexists _; isplitr; · ipureintro; exact harg8.read_unread _
       iexact H5
     isplitl [H6]
     · iexists _; isplitr; · ipureintro; exact harg9.read_unread _
       iexact H6
     isplitl [H7]
     · iexists _; isplitr; · ipureintro; exact harg10.read_unread _
       iexact H7
     isplitl [H8]
     · iexists _; isplitr; · ipureintro; exact harg11.read_unread _
       iexact H8
     isplitl [H9]
     · iexists _, _; isplitr; swap; · iexact H9
       ipureintro; rfl
     isplitl [H10]
     · iexists _, _; isplitr; swap; · iexact H10
       ipureintro; rfl
     isplitl [H11]
     · iexists _, _; isplitr; swap; · iexact H11
       ipureintro; rfl
     isplitl [HS0]
     · iexists _, _; isplitr; swap; · iexact HS0
       ipureintro; rfl
     isplitl [HS1]
     · iexists _, _; isplitr; swap; · iexact HS1
       ipureintro; rfl
     isplitl [HS2]
     · iexists _, _; isplitr; swap; · iexact HS2
       ipureintro; rfl
     isplitl [HS3]
     · iexists _, _; isplitr; swap; · iexact HS3
       ipureintro; rfl
     isplitl [HS4]
     · iexists _, _; isplitr; swap; · iexact HS4
       ipureintro; rfl
     isplitl [HS5]
     · iexists _, _; isplitr; swap; · iexact HS5
       ipureintro; rfl
     isplitl [HS6]
     · iexists _, _; isplitr; swap; · iexact HS6
       ipureintro; rfl
     isplitl [HT0]; · iexact HT0
     iexact HT1

end Cert.Kernel.Gen

end
-- ==== Proof.KernelRunC.lean ====
/- The run of the body at the points past the batch, which copy their slot. -/
module

public import proofs.«01_k».proof.Proof.KernelRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE C (`scf.if` 0 not taken, `scf.if` 1 taken, `scf.if` 2 not taken: points 256, 257, … 322: 67 of 323): on whole staging memrefs — the inputs' at their contents,
    the FORGOTTEN outputs' (9, 10, 11) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (i : grid0.Coords) (arg3 : Memref sig .tc .vmem S1x48x64 .bf16) (harg3 : arg3.IsWhole) (arg4 : Memref sig .tc .vmem S256x48 .bf16) (harg4 : arg4.IsWhole) (arg5 : Memref sig .tc .vmem S1x48 .f32) (harg5 : arg5.IsWhole) (arg6 : Memref sig .tc .vmem S1x48 .f32) (harg6 : arg6.IsWhole) (arg7 : Memref sig .tc .vmem S1x1x128 .bf16) (harg7 : arg7.IsWhole) (arg8 : Memref sig .tc .vmem S1x1x128 .bf16) (harg8 : arg8.IsWhole) (arg9 : Memref sig .tc .vmem S24x128 .f32) (harg9 : arg9.IsWhole) (arg10 : Memref sig .tc .vmem S1x48x64x128 .fp8e4m3) (harg10 : arg10.IsWhole) (arg11 : Memref sig .tc .vmem S1x48x64 .f32) (harg11 : arg11.IsWhole) (arg12 : Memref sig .tc .vmem S1x48x64 .bf16) (harg12 : arg12.IsWhole) (arg13 : Memref sig .tc .vmem S1x48x64x128 .fp8e4m3) (harg13 : arg13.IsWhole) (arg14 : Memref sig .tc .vmem S1x48x64 .f32) (harg14 : arg14.IsWhole) (arg15 : Memref sig .tc .vmem S256x128 .f32) (harg15 : arg15.IsWhole) (arg16 : Memref sig .tc .vmem S144x256 .bf16) (harg16 : arg16.IsWhole) (arg17 : Memref sig .tc .vmem S192x128 .f32) (harg17 : arg17.IsWhole) (arg18 : Memref sig .tc .vmem S24x128x128 .f32) (harg18 : arg18.IsWhole) (arg19 : Memref sig .tc .vmem S192x128 .f32) (harg19 : arg19.IsWhole) (arg20 : Memref sig .tc .vmem S24x128 .f32) (harg20 : arg20.IsWhole) (arg21 : Memref sig .tc .vmem S24x128 .f32) (harg21 : arg21.IsWhole) (hc0 : ¬cond0_0 i) (hc1 : cond0_1 i) (hc2 : ¬cond0_2 i)
    (x0 : Vec F S1x48x64 .bf16) (x1 : Vec F S256x48 .bf16) (x2 : Vec F S1x48 .f32) (x3 : Vec F S1x48 .f32) (x4 : Vec F S1x1x128 .bf16) (x5 : Vec F S1x1x128 .bf16) (x6 : Vec F S24x128 .f32) (x7 : Vec F S1x48x64x128 .fp8e4m3) (x8 : Vec F S1x48x64 .f32) (xt0 : TbBuf0 (F := F) c tbM0_0) (xt1 : TbBuf0 (F := F) c tbM0_1) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ tbPt0 c tbM0_0 xt0 ∗ tbPt0 c tbM0_1 xt1) -∗ K ⟨⟩))
          ⊢ wp frame (wpE (defs₀ (F := F)) Variants.none c none) E (cc0_ssu i tbM0_0 htbM0_0 tbM0_1 htbM0_1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
    intro E K
    simp only [cc0_ssu_eq_skeleton]; unfold cc0_ssu_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HT0]; · iexact HT0
    iexact HT1

end Cert.Kernel.Gen

end
-- ==== Proof.KernelOk.lean ====
/- The side condition of the two prefetched tables. Each table is a list of slots the problem gives, followed by the
   slots nobody writes, which the host takes modulo 323. So every word of both names one of the 323 slots, and each
   table-indexed window has its block inside its array. -/
module

public import proofs.«01_k».proof.Proof.KernelRuns
public import Idealize.ShloMosaic.Lib.Affine
public import Idealize.ShloMosaic.Lib.StableHlo.RunRead
public import Idealize.ShloMosaic.Lib.Pointwise
public import Idealize.ShloMosaic.Lib.ValueIdx
public import Idealize.ShloMosaic.Lib.Pipeline.ValueKit
public import proofs.«01_k».proof.Proof.Gen.Pre_slots_ok

@[expose] public section

set_option maxRecDepth 16384

namespace Cert.Kernel.Gen

open Idealize.ShloMosaic Idealize.ShloMosaic.TcCoe Idealize.ShloMosaic.Tactic Idealize.ShloMosaic.StableHlo

variable {F : FTy → Type} [FloatOps F]

/-- A block one slot long along the first axis and whole along the others is inside an array of 323 slots. -/
theorem blk4 (w : BitVec 32) (h : w.toNat < 323) :
    ∀ a, ((![w.toNat, (0#32).toNat, (0#32).toNat, (0#32).toNat] : Fin 4 → Nat) a + 1) * S1x48x64x128.size a ≤ S323x48x64x128.size a := by
  intro a; fin_cases a <;> simp <;> omega

theorem blk3 (w : BitVec 32) (h : w.toNat < 323) :
    ∀ a, ((![w.toNat, (0#32).toNat, (0#32).toNat] : Fin 3 → Nat) a + 1) * S1x48x64.size a ≤ S323x48x64.size a := by
  intro a; fin_cases a <;> simp <;> omega

/-- Tables whose words are all slots satisfy the pipeline's side condition. -/
theorem ok_of_words (pf : pre0.Contents (Elt F)) (h0 : ∀ y, BitVec.toNat (w := 32) (pf 0 y) < 323)
    (h1 : ∀ y, BitVec.toNat (w := 32) (pf 1 y) < 323) : ok0 pf :=
  ⟨fun i => ⟨blk4 _ (h0 _), .inr (Affine.block_words_rows (by decide) rfl)⟩,
   fun i => ⟨blk3 _ (h0 _), .inl rfl⟩,
   fun i => ⟨blk4 _ (h1 _), .inr (Affine.block_words_rows (by decide) rfl)⟩,
   fun i => ⟨blk3 _ (h1 _), .inl rfl⟩⟩

/-- The remainder by 323 with the sign of the divisor, as the host computes it, is one of the 323 slots. -/
theorem rem_lt (a : BitVec 32) :
    BitVec.toNat (w := 32) (bif (a.srem 323#32).slt 0#32 && !(a.srem 323#32 == 0#32) then a.srem 323#32 + 323#32 else a.srem 323#32) < 323 := by
  have e : (a.srem 323#32).toInt = a.toInt.tmod 323 := by rw [BitVec.toInt_srem]; rfl
  have h1 := Int.tmod_lt_of_pos a.toInt (b := 323) (by decide)
  have h2 := Int.lt_tmod_of_pos a.toInt (b := 323) (by decide)
  generalize a.srem 323#32 = r at *
  rw [← e] at h1 h2
  have hr : BitVec.toNat (w := 32) r < 2 ^ 32 := r.isLt
  by_cases hs : r.toInt < 0
  · have c : (bif r.slt 0#32 && !(r == 0#32) then r + 323#32 else r) = r + 323#32 := by
      have a : r.slt 0#32 = true := by simpa [BitVec.slt] using hs
      have b : (r == 0#32) = false := by
        rw [beq_eq_false_iff_ne]; rintro rfl; exact absurd hs (by decide)
      rw [a, b]; rfl
    rw [c]
    simp only [BitVec.toInt, BitVec.toNat_add, BitVec.toNat_ofNat] at *
    omega
  · have c : (bif r.slt 0#32 && !(r == 0#32) then r + 323#32 else r) = r := by
      have a : r.slt 0#32 = false := by simpa [BitVec.slt] using hs
      rw [a]; rfl
    rw [c]
    simp only [BitVec.toInt] at *
    omega

/-- The host's remainder, word by word. -/
def remV (a : IVec S67 32) : IVec S67 32 := Host.remsi a (fun _ => 323#32)

/-- The host's remainder with the sign of the divisor. -/
def slotV (a : IVec S67 32) : IVec S67 32 :=
  select (andi (cmpi .ne (cmpi .slt (remV a) (fun _ => 0#32)) (fun _ => 0#1)) (cmpi .ne (remV a) (fun _ => 0#32)))
    (addi (remV a) (fun _ => 323#32)) (remV a)

theorem slotV_lt (a : IVec S67 32) (y : S67.Idx) : BitVec.toNat (w := 32) (slotV a y) < 323 := by
  refine lt_of_eq_of_lt ?_ (rem_lt (a y))
  have e : remV a y = (a y).srem 323#32 := by
    show IntOp.remsi .host (a y) 323#32 = _
    have hn : ¬ IntOp.SDivCorner (a y) 323#32 := by rintro (h | ⟨_, h⟩) <;> revert h <;> decide
    exact if_neg hn
  show BitVec.toNat (w := 32) (if (IntOp.andi (IntOp.cmpi .ne (IntOp.cmpi .slt (remV a y) 0#32) 0#1) (IntOp.cmpi .ne (remV a y) 0#32)) = 1#1
    then IntOp.addi (remV a y) 323#32 else remV a y) = _
  rw [e]
  generalize (a y).srem 323#32 = r
  cases h1 : r.slt 0#32 <;> cases h2 : (r == 0#32) <;> simp [IntOp.cmpi, IntOp.andi, IntOp.addi, h1, h2, bne]

/-- The unwritten slots, as the host computes them, are slots. -/
theorem rest_line (W : Valuation τ sig (Elt F)) (hc : W (Proc.devRef .tc main_c_8) = constantI S_ 32 323#32) (y : S67.Idx) :
    BitVec.toNat (w := 32) (after (List.flatten [hostOps0_7, hostOps0_8, hostOps0_9]) W (Proc.devRef .tc main_v29) y) < 323 := by
  have e : ∃ c : IVec S67 1, after (List.flatten [hostOps0_7, hostOps0_8, hostOps0_9]) W (Proc.devRef .tc main_v29)
      = select c (fun _ => 0#32) (slotV (W (Proc.devRef .tc main_v21))) := by
    after_reads_simp
    rw [hc]
    exact ⟨_, rfl⟩
  obtain ⟨c, e⟩ := e
  rw [e]
  show BitVec.toNat (w := 32) (if c y = 1#1 then 0#32 else slotV _ y) < 323
  split_ifs
  · decide
  · exact slotV_lt _ _

/-- The host lines up to the divisor of the remainder. -/
def preLines (m : (ℓ : Loc nD τ sig) → Buf (Elt F) ℓ) (c : Dev nD) : Valuation τ sig (Elt F) :=
  after (List.flatten [hostOps0, hostOps0_1, hostOps0_2, hostOps0_3, hostOps0_4, hostOps0_5, hostOps0_6]) (fun b => m (c, b))

theorem V_eq (m : (ℓ : Loc nD τ sig) → Buf (Elt F) ℓ) (c : Dev nD) (b : Ref sig .tc) :
    V m c b = after hostOps0_10 (after (List.flatten [hostOps0_7, hostOps0_8, hostOps0_9]) (preLines m c)) (Proc.devRef .tc b) := by
  unfold V preLines
  rw [← after_append, ← after_append]
  rfl

theorem pre_c (m : (ℓ : Loc nD τ sig) → Buf (Elt F) ℓ) (c : Dev nD) : preLines m c (Proc.devRef .tc main_c_8) = constantI S_ 32 323#32 := by
  unfold preLines
  after_reads_simp

/-- The slots nobody writes, as the host computes them. -/
def restV (m : (ℓ : Loc nD τ sig) → Buf (Elt F) ℓ) (c : Dev nD) : IVec S67 32 :=
  after (List.flatten [hostOps0_7, hostOps0_8, hostOps0_9]) (preLines m c) (Proc.devRef .tc main_v29)

theorem restV_lt (m : (ℓ : Loc nD τ sig) → Buf (Elt F) ℓ) (c : Dev nD) (y : S67.Idx) : BitVec.toNat (w := 32) (restV m c y) < 323 :=
  rest_line _ (pre_c m c) y

theorem line_src (W : Valuation τ sig (Elt F)) : after hostOps0_10 W (Proc.devRef .tc main_v30)
    = concatenate S323 0 [⟨S256, (W (Proc.devRef .tc main_arg9) : IVec S256 32)⟩, ⟨S67, (W (Proc.devRef .tc main_v29) : IVec S67 32)⟩] concatenates_S256_S67_S323_d0 := by
  after_reads_simp
  rfl

theorem line_out (W : Valuation τ sig (Elt F)) : after hostOps0_10 W (Proc.devRef .tc main_v31)
    = concatenate S323 0 [⟨S256, (W (Proc.devRef .tc main_arg10) : IVec S256 32)⟩, ⟨S67, (W (Proc.devRef .tc main_v29) : IVec S67 32)⟩] concatenates_S256_S67_S323_d0 := by
  after_reads_simp
  rfl

/-- The table of slots read: the item's slots, then the slots nobody writes. -/
theorem V_src (m : (ℓ : Loc nD τ sig) → Buf (Elt F) ℓ) (c : Dev nD) : V m c main_v30
    = concatenate S323 0 [⟨S256, (m ((c : Thread nD τ).loc main_arg9) : IVec S256 32)⟩, ⟨S67, restV m c⟩] concatenates_S256_S67_S323_d0 := by
  have e : after (List.flatten [hostOps0_7, hostOps0_8, hostOps0_9]) (preLines m c) (Proc.devRef .tc main_arg9) = m ((c : Thread nD τ).loc main_arg9) := by
    unfold preLines
    after_reads_simp
  rw [V_eq, line_src, e]
  rfl

/-- The table of slots written: the item's slots, then the slots nobody writes. -/
theorem V_out (m : (ℓ : Loc nD τ sig) → Buf (Elt F) ℓ) (c : Dev nD) : V m c main_v31
    = concatenate S323 0 [⟨S256, (m ((c : Thread nD τ).loc main_arg10) : IVec S256 32)⟩, ⟨S67, restV m c⟩] concatenates_S256_S67_S323_d0 := by
  have e : after (List.flatten [hostOps0_7, hostOps0_8, hostOps0_9]) (preLines m c) (Proc.devRef .tc main_arg10) = m ((c : Thread nD τ).loc main_arg10) := by
    unfold preLines
    after_reads_simp
  rw [V_eq, line_out, e]
  rfl

/-- The first table of the two, read. -/
theorem concat_lo (a : IVec S256 32) (b : IVec S67 32) (i : Fin 256) :
    concatenate S323 0 [⟨S256, a⟩, ⟨S67, b⟩] concatenates_S256_S67_S323_d0 (ix1 ⟨i.val, by omega⟩) = a (ix1 i) := by
  pointwise

/-- The second table of the two, read. -/
theorem concat_hi (a : IVec S256 32) (b : IVec S67 32) (i : Fin 67) :
    concatenate S323 0 [⟨S256, a⟩, ⟨S67, b⟩] concatenates_S256_S67_S323_d0 (ix1 ⟨256 + i.val, by omega⟩) = b (ix1 i) := by
  pointwise

/-- Two tables in a row hold slots when both do. -/
theorem concat_lt (a : IVec S256 32) (b : IVec S67 32) (ha : ∀ y, BitVec.toNat (w := 32) (a y) < 323) (hb : ∀ y, BitVec.toNat (w := 32) (b y) < 323) (y : S323.Idx) :
    BitVec.toNat (w := 32) (concatenate S323 0 [⟨S256, a⟩, ⟨S67, b⟩] concatenates_S256_S67_S323_d0 y) < 323 := by
  have y0 : (y 0).val < 323 := (y 0).isLt
  by_cases h : (y 0).val < 256
  · have e : y = ix1 ⟨(⟨(y 0).val, h⟩ : Fin 256).val, y0⟩ := by
      funext a
      match a with
      | ⟨0, _⟩ => rfl
    rw [e]
    exact lt_of_eq_of_lt (congrArg BitVec.toNat (concat_lo a b ⟨(y 0).val, h⟩)) (ha _)
  · have e : y = ix1 ⟨256 + (⟨(y 0).val - 256, by omega⟩ : Fin 67).val, by show 256 + ((y 0).val - 256) < 323; omega⟩ := by
      funext a
      match a with
      | ⟨0, _⟩ => exact Fin.ext (show (y 0).val = 256 + ((y 0).val - 256) by omega)
    rw [e]
    exact lt_of_eq_of_lt (congrArg BitVec.toNat (concat_hi a b ⟨(y 0).val - 256, by omega⟩)) (hb _)

/-- The precondition, read at an item: both of its slots are among the 323. -/
theorem slots_of_pre (m : (ℓ : Loc nD τ sig) → Buf (Elt F) ℓ)
    (h : (Cert.Pre_slots_ok.fn (F := F) (m (((0 : Dev nD).tc : Thread nD τ).loc main_arg0)) (m (((0 : Dev nD).tc : Thread nD τ).loc main_arg1))
      (m (((0 : Dev nD).tc : Thread nD τ).loc main_arg2)) (m (((0 : Dev nD).tc : Thread nD τ).loc main_arg3)) (m (((0 : Dev nD).tc : Thread nD τ).loc main_arg4))
      (m (((0 : Dev nD).tc : Thread nD τ).loc main_arg5)) (m (((0 : Dev nD).tc : Thread nD τ).loc main_arg6)) (m (((0 : Dev nD).tc : Thread nD τ).loc main_arg7))
      (m (((0 : Dev nD).tc : Thread nD τ).loc main_arg8)) (m (((0 : Dev nD).tc : Thread nD τ).loc main_arg9)) (m (((0 : Dev nD).tc : Thread nD τ).loc main_arg10))) = fun _ => 1#1) (y : S256.Idx) :
    BitVec.toNat (w := 32) (m (((0 : Dev nD).tc : Thread nD τ).loc main_arg9) y) < 323
      ∧ BitVec.toNat (w := 32) (m (((0 : Dev nD).tc : Thread nD τ).loc main_arg10) y) < 323 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun h y
  simp only [Cert.Pre_slots_ok.fn, andi, cmpi, broadcastInDim, constantI, IntOp.cmpi, andi_ofBool, ofBool_eq_one,
    Bool.and_eq_true] at e
  obtain ⟨⟨⟨a, b⟩, c⟩, d⟩ := e
  simp only [BitVec.sle, BitVec.slt, decide_eq_true_eq, BitVec.toInt, BitVec.toNat_ofNat] at a b c d
  constructor <;> omega

/-- The launch memory's tables satisfy the side condition when the precondition holds of it. -/
theorem ok_of_pre (m : (ℓ : Loc nD τ sig) → Buf (Elt F) ℓ)
    (h : (Cert.Pre_slots_ok.fn (F := F) (m (((0 : Dev nD).tc : Thread nD τ).loc main_arg0)) (m (((0 : Dev nD).tc : Thread nD τ).loc main_arg1))
      (m (((0 : Dev nD).tc : Thread nD τ).loc main_arg2)) (m (((0 : Dev nD).tc : Thread nD τ).loc main_arg3)) (m (((0 : Dev nD).tc : Thread nD τ).loc main_arg4))
      (m (((0 : Dev nD).tc : Thread nD τ).loc main_arg5)) (m (((0 : Dev nD).tc : Thread nD τ).loc main_arg6)) (m (((0 : Dev nD).tc : Thread nD τ).loc main_arg7))
      (m (((0 : Dev nD).tc : Thread nD τ).loc main_arg8)) (m (((0 : Dev nD).tc : Thread nD τ).loc main_arg9)) (m (((0 : Dev nD).tc : Thread nD τ).loc main_arg10))) = fun _ => 1#1) : Ok m := by
  refine ok_of_words _ (fun y => ?_) (fun y => ?_)
  · rw [show tbl m 0 = _ from V_src m 0]; exact concat_lt _ _ (fun y => (slots_of_pre m h y).1) (restV_lt m 0) y
  · rw [show tbl m 1 = _ from V_out m 0]; exact concat_lt _ _ (fun y => (slots_of_pre m h y).2) (restV_lt m 0) y

end Cert.Kernel.Gen
-- ==== Proof.KernelFrame.lean ====
/- The frame of the kernel: the proof data of its pipeline, the body obligation, and the claim. -/
module

public import proofs.«01_k».proof.Proof.KernelRunA
public import proofs.«01_k».proof.Proof.KernelRunB
public import proofs.«01_k».proof.Proof.KernelRunC
public import proofs.«01_k».proof.Proof.KernelOk
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (9, 10, 11): nothing reads what the kernel leaves in them, so nothing
    of it is named (Lib/Pipeline/Dat.lean `Dat.toRForget`). -/
def forgets0 : Fin 12 → Bool := fun w => w.val == 9 || w.val == 10 || w.val == 11

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, h⟩ => Pipeline.Dat.unnamed (cfg := (cfgM m hO)) ⟨9, h⟩ t
    | ⟨10, h⟩ => Pipeline.Dat.unnamed (cfg := (cfgM m hO)) ⟨10, h⟩ t
    | ⟨11, h⟩ => Pipeline.Dat.unnamed (cfg := (cfgM m hO)) ⟨11, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d))

set_option maxHeartbeats 4800000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8]
  rw [show (dats m hO 0 c).Φ t.succ = (dats m hO 0 c).Φ t.castSucc from rfl,
    show (dats m hO 0 c).owesAt () t.succ = (dats m hO 0 c).owesAt () t.castSucc from rfl]
  rw [show (dats m hO 0 c).Φ t.castSucc = iprop(Pipeline.ΦA spec0 c ∗ Pipeline.ΦT pre0 (tbl m) c) from rfl, PhiT0_eq, PhiA0_eq]
  have hN : t.val < 323 := lt_of_lt_of_eq t.isLt (show (cfgM m hO).N = 323 from N_0)
  by_cases h0 : t.val % 323 = 0
  · by_cases h1 : 256 ≤ t.val
    · exfalso; omega
    · by_cases h2 : t.val < 256
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [show (dats m hO 0 c).leavesExact 6 t = owns (c : Thread nD τ) (ms0_6 m hO t) fullShare ((dats m hO 0 c).after 6 t) from by
      unfold Dat.leavesExact; rw [liveAt0_6 m hO t]; try rfl, after0_6]
        rw [show (dats m hO 0 c).leavesExact 7 t = owns (c : Thread nD τ) (ms0_7 m hO t) fullShare ((dats m hO 0 c).after 7 t) from by
      unfold Dat.leavesExact; rw [liveAt0_7 m hO t]; try rfl, after0_7]
        rw [show (dats m hO 0 c).leavesExact 8 t = owns (c : Thread nD τ) (ms0_8 m hO t) fullShare ((dats m hO 0 c).after 8 t) from by
      unfold Dat.leavesExact; rw [liveAt0_8 m hO t]; try rfl, after0_8]
        iintro ⟨⟨⟨⟨HS0, HS1, HS2, HS3, HS4, HS5, HS6⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_A c (grid0.coords t) _ _ _ _ _ _ _ _ _ _ _ _ _ _ _ _ _ _ _ _ _ _ _ _ _ _ _ _ _ _ _ _ _ _ _ _ _ _ ((hcond0_0 t).mpr h0) (fun h => h1 ((hcond0_1 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        isplitl [H11]; · iexists _; iexact H11
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HT0]; · iexact HT0
        isplitl [HT1]; · iexact HT1
        iintro ⟨H0, H1, H2, H3, H4, H5, H6, H7, H8, H9, H10, H11, HS0, HS1, HS2, HS3, HS4, HS5, HS6, HT0, HT1⟩
        isplitl [HS0 HS1 HS2 HS3 HS4 HS5 HS6 Hg HT0 HT1]
        · isplitl [HS0 HS1 HS2 HS3 HS4 HS5 HS6 Hg]
          · isplitl [HS0 HS1 HS2 HS3 HS4 HS5 HS6]
            · isplitl [HS0]
              · iexact HS0
              isplitl [HS1]
              · iexact HS1
              isplitl [HS2]
              · iexact HS2
              isplitl [HS3]
              · iexact HS3
              isplitl [HS4]
              · iexact HS4
              isplitl [HS5]
              · iexact HS5
              iexact HS6
            iexact Hg
          isplitl [HT0]; · iexact HT0
          iexact HT1
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexact H11
      · exfalso; omega
  · by_cases h1 : 256 ≤ t.val
    · by_cases h2 : t.val < 256
      · exfalso; omega
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [show (dats m hO 0 c).leavesExact 6 t = owns (c : Thread nD τ) (ms0_6 m hO t) fullShare ((dats m hO 0 c).after 6 t) from by
      unfold Dat.leavesExact; rw [liveAt0_6 m hO t]; try rfl, after0_6]
        rw [show (dats m hO 0 c).leavesExact 7 t = owns (c : Thread nD τ) (ms0_7 m hO t) fullShare ((dats m hO 0 c).after 7 t) from by
      unfold Dat.leavesExact; rw [liveAt0_7 m hO t]; try rfl, after0_7]
        rw [show (dats m hO 0 c).leavesExact 8 t = owns (c : Thread nD τ) (ms0_8 m hO t) fullShare ((dats m hO 0 c).after 8 t) from by
      unfold Dat.leavesExact; rw [liveAt0_8 m hO t]; try rfl, after0_8]
        iintro ⟨⟨⟨⟨HS0, HS1, HS2, HS3, HS4, HS5, HS6⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_C c (grid0.coords t) _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        isplitl [H11]; · iexists _; iexact H11
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HT0]; · iexact HT0
        isplitl [HT1]; · iexact HT1
        iintro ⟨H0, H1, H2, H3, H4, H5, H6, H7, H8, H9, H10, H11, HS0, HS1, HS2, HS3, HS4, HS5, HS6, HT0, HT1⟩
        isplitl [HS0 HS1 HS2 HS3 HS4 HS5 HS6 Hg HT0 HT1]
        · isplitl [HS0 HS1 HS2 HS3 HS4 HS5 HS6 Hg]
          · isplitl [HS0 HS1 HS2 HS3 HS4 HS5 HS6]
            · isplitl [HS0]
              · iexact HS0
              isplitl [HS1]
              · iexact HS1
              isplitl [HS2]
              · iexact HS2
              isplitl [HS3]
              · iexact HS3
              isplitl [HS4]
              · iexact HS4
              isplitl [HS5]
              · iexact HS5
              iexact HS6
            iexact Hg
          isplitl [HT0]; · iexact HT0
          iexact HT1
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexact H11
    · by_cases h2 : t.val < 256
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [show (dats m hO 0 c).leavesExact 6 t = owns (c : Thread nD τ) (ms0_6 m hO t) fullShare ((dats m hO 0 c).after 6 t) from by
      unfold Dat.leavesExact; rw [liveAt0_6 m hO t]; try rfl, after0_6]
        rw [show (dats m hO 0 c).leavesExact 7 t = owns (c : Thread nD τ) (ms0_7 m hO t) fullShare ((dats m hO 0 c).after 7 t) from by
      unfold Dat.leavesExact; rw [liveAt0_7 m hO t]; try rfl, after0_7]
        rw [show (dats m hO 0 c).leavesExact 8 t = owns (c : Thread nD τ) (ms0_8 m hO t) fullShare ((dats m hO 0 c).after 8 t) from by
      unfold Dat.leavesExact; rw [liveAt0_8 m hO t]; try rfl, after0_8]
        iintro ⟨⟨⟨⟨HS0, HS1, HS2, HS3, HS4, HS5, HS6⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_B c (grid0.coords t) _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        isplitl [H11]; · iexists _; iexact H11
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HT0]; · iexact HT0
        isplitl [HT1]; · iexact HT1
        iintro ⟨H0, H1, H2, H3, H4, H5, H6, H7, H8, H9, H10, H11, HS0, HS1, HS2, HS3, HS4, HS5, HS6, HT0, HT1⟩
        isplitl [HS0 HS1 HS2 HS3 HS4 HS5 HS6 Hg HT0 HT1]
        · isplitl [HS0 HS1 HS2 HS3 HS4 HS5 HS6 Hg]
          · isplitl [HS0 HS1 HS2 HS3 HS4 HS5 HS6]
            · isplitl [HS0]
              · iexact HS0
              isplitl [HS1]
              · iexact HS1
              isplitl [HS2]
              · iexact HS2
              isplitl [HS3]
              · iexact HS3
              isplitl [HS4]
              · iexact HS4
              isplitl [HS5]
              · iexact HS5
              iexact HS6
            iexact Hg
          isplitl [HT0]; · iexact HT0
          iexact HT1
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexact H11
      · exfalso; omega

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget`'s implicit arguments are found by unifying its conclusion with this one, which takes unfolding plain
-- definitions in a metavariable's type
set_option maxHeartbeats 2000000 in
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 9, 10, 11) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ hO (fun c => (dats m hO 0 c).toRForget forgets0) (A_eq m hO) (run_main m ρ hO)

/-- THE FRAME: `Cert.quiescent_Kernel`'s statement (Defs.lean) at any `F` — Proof.lean cites it at `Bits`:
    here for every contents of the PREFETCHED TABLES, UNDER `Gen.Ok m` (the pipeline's side condition of
    them), which Proof.lean proves from the precondition: `⟨…, fun m ρ h => Cert.Kernel.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ hO) ((θ_run defs _ _).mono (fun _ h => h.2) (run_main_quiescent m ρ hO))

end Cert.Kernel.Gen

end
-- ==== Proof.KernelIdealRuns.lean ====
/- What the runs of the kernel share: the buffers the call finds, the tables, the windows' blocks, the three branch
   conditions in closed form over the grid, the staging and scratch buffers. -/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_ssu (grid0.coords t) (Memref.whole main_v30) (Memref.isWhole_whole _) (Memref.whole main_v31) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)

/-! ## @main up to the region -/

/-- Core `c`'s TensorCore buffers when the region is entered: after the host operations, stretch by stretch. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10]) (fun b => m (c, b)) b
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor

set_option maxHeartbeats 800000 in
/-- @main up to the region: the stretches of host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9, hostOps0_10] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S323 .i32 := Memref.whole main_v30
abbrev htbM0_0 : tbM0_0.IsWhole := Memref.isWhole_whole _
abbrev tbM0_1 : Memref sig .tc .smem S323 .i32 := Memref.whole main_v31
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      (Pipeline.RDat.FramePost.arr_in h c 4 rfl).trans ((hA c 4).trans (V_main_arg4 m c)),
      (Pipeline.RDat.FramePost.arr_in h c 5 rfl).trans ((hA c 5).trans (V_main_arg5 m c)),
      ((h c).2 main_arg6 (by decide : main_arg6 ∈ Pipeline.restRefs sig spec0)).trans (V_main_arg6 m c),
      (Pipeline.RDat.FramePost.arr_in h c 7 rfl).trans ((hA c 7).trans (V_main_arg7 m c)),
      (Pipeline.RDat.FramePost.arr_in h c 8 rfl).trans ((hA c 8).trans (V_main_arg8 m c)),
      ((h c).2 main_arg9 (by decide : main_arg9 ∈ Pipeline.restRefs sig spec0)).trans (V_main_arg9 m c),
      ((h c).2 main_arg10 (by decide : main_arg10 ∈ Pipeline.restRefs sig spec0)).trans (V_main_arg10 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin grid0.N, cond0_0 (grid0.coords t) ↔ t.val % 323 = 0 :=
  (fun t => by
    have ht : t.val < 323 := Nat.lt_of_lt_of_eq t.isLt N_0
    have e0 : (grid0.coords t 0).val = t.val / 1 % 323 := Pipeline.Grid.coords_val t 0 (by decide) rfl
    simp only [cond0_0, e0]
    word_cmp
   : ∀ t : Fin grid0.N, cond0_0 (grid0.coords t) ↔ t.val % 323 = 0)

/-- The condition of the body's `scf.if` 1 (`k0_h2`), from the grid coordinates (the skeleton's scalar
    chain substituted). -/
abbrev cond0_1 (i : grid0.Coords) : Prop := k0_cond2 i = 1#1
/-- It holds at the points from point 256 on — decided over the grid. -/
theorem hcond0_1 : ∀ t : Fin grid0.N, cond0_1 (grid0.coords t) ↔ 256 ≤ t.val :=
  (by decide +kernel : ∀ t : Fin grid0.N, cond0_1 (grid0.coords t) ↔ 256 ≤ t.val)

/-- The condition of the body's `scf.if` 2 (`k0_h3`), from the grid coordinates (the skeleton's scalar
    chain substituted). -/
abbrev cond0_2 (i : grid0.Coords) : Prop := k0_cond3 i = 1#1
/-- It holds at the points before point 256 — decided over the grid. -/
theorem hcond0_2 : ∀ t : Fin grid0.N, cond0_2 (grid0.coords t) ↔ t.val < 256 :=
  (by decide +kernel : ∀ t : Fin grid0.N, cond0_2 (grid0.coords t) ↔ t.val < 256)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 5 (grid0.coords t) = false)
/-- Window 6 is never idle (an input). -/
theorem liveAt0_6 (hO : Ok m) : ∀ t : Fin (cfgM m hO).N, (cfgM m hO).idle 6 (grid0.coords t) = false :=
  (fun _ => rfl : ∀ t : Fin grid0.N, idle0 6 (grid0.coords t) = false)
/-- Window 7 is never idle (an input). -/
theorem liveAt0_7 (hO : Ok m) : ∀ t : Fin (cfgM m hO).N, (cfgM m hO).idle 7 (grid0.coords t) = false :=
  (fun _ => rfl : ∀ t : Fin grid0.N, idle0 7 (grid0.coords t) = false)
/-- Window 8 is never idle (an input). -/
theorem liveAt0_8 (hO : Ok m) : ∀ t : Fin (cfgM m hO).N, (cfgM m hO).idle 8 (grid0.coords t) = false :=
  (fun _ => rfl : ∀ t : Fin grid0.N, idle0 8 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x48x64 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S256x48 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x48 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x48 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x128 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x128 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S24x128 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x48x64x128 .fp8e4m3 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x48x64 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x48x64 .bf16 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x48x64x128 .fp8e4m3 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x48x64 .f32 := spec0_11.stage ((cfgM m hO).slots t 11)
abbrev hs0_11 (hO : Ok m) (t : Fin (cfgM m hO).N) : (ms0_11 m hO t).IsWhole := hstage0_11 (((cfgM m hO).slots t 11).cast nbuf0_11)
/-- The scratch operands: whole scoped buffers of the kernel's own, passed beside the windows. -/
abbrev scM0_0 : Memref sig .tc .vmem S256x128 .f32 := Memref.whole cc0_scratch0
abbrev scM0_1 : Memref sig .tc .vmem S144x256 .bf16 := Memref.whole cc0_scratch1
abbrev scM0_2 : Memref sig .tc .vmem S192x128 .f32 := Memref.whole cc0_scratch2
abbrev scM0_3 : Memref sig .tc .vmem S24x128x128 .f32 := Memref.whole cc0_scratch3
abbrev scM0_4 : Memref sig .tc .vmem S192x128 .f32 := Memref.whole cc0_scratch4
abbrev scM0_5 : Memref sig .tc .vmem S24x128 .f32 := Memref.whole cc0_scratch5
abbrev scM0_6 : Memref sig .tc .vmem S24x128 .f32 := Memref.whole cc0_scratch6

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-- A goal on a conditional the run cannot decide: one goal for each branch. -/
theorem wp_ite_cases {c : Dev nD} {E : Set ℕ} {C : Prop} [Decidable C] {H : sProp (MT nD τ sig Unit (Elt F) ℕ (UR sig nD τ) ℕ)}
    {p q : Prog (TpuEff nD τ sig (Elt F) Λ₀ .tc) PUnit} {K : PUnit → sProp (MT nD τ sig Unit (Elt F) ℕ (UR sig nD τ) ℕ)}
    (hp : C → Entails' H (wp frame (wpE (defs₀ (F := F)) Variants.none c none) E p K))
    (hq : ¬C → Entails' H (wp frame (wpE (defs₀ (F := F)) Variants.none c none) E q K)) :
    Entails' H (wp frame (wpE (defs₀ (F := F)) Variants.none c none) E (if C then p else q) K) := by
  by_cases h : C
  · rw [if_pos h]; exact hp h
  · rw [if_neg h]; exact hq h

end Cert.KernelIdeal.Gen

end
-- ==== Proof.KernelIdealRunA.lean ====
/- The run of the body at the first point. -/
module

public import proofs.«01_k».proof.Proof.KernelIdealRuns

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken, `scf.if` 1 not taken, `scf.if` 2 taken: points 0): on whole staging memrefs — the inputs' at their contents,
    the FORGOTTEN outputs' (9, 10, 11) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg3 : Memref sig .tc .vmem S1x48x64 .bf16) (harg3 : arg3.IsWhole) (arg4 : Memref sig .tc .vmem S256x48 .bf16) (harg4 : arg4.IsWhole) (arg5 : Memref sig .tc .vmem S1x48 .f32) (harg5 : arg5.IsWhole) (arg6 : Memref sig .tc .vmem S1x48 .f32) (harg6 : arg6.IsWhole) (arg7 : Memref sig .tc .vmem S1x1x128 .bf16) (harg7 : arg7.IsWhole) (arg8 : Memref sig .tc .vmem S1x1x128 .bf16) (harg8 : arg8.IsWhole) (arg9 : Memref sig .tc .vmem S24x128 .f32) (harg9 : arg9.IsWhole) (arg10 : Memref sig .tc .vmem S1x48x64x128 .fp8e4m3) (harg10 : arg10.IsWhole) (arg11 : Memref sig .tc .vmem S1x48x64 .f32) (harg11 : arg11.IsWhole) (arg12 : Memref sig .tc .vmem S1x48x64 .bf16) (harg12 : arg12.IsWhole) (arg13 : Memref sig .tc .vmem S1x48x64x128 .fp8e4m3) (harg13 : arg13.IsWhole) (arg14 : Memref sig .tc .vmem S1x48x64 .f32) (harg14 : arg14.IsWhole) (arg15 : Memref sig .tc .vmem S256x128 .f32) (harg15 : arg15.IsWhole) (arg16 : Memref sig .tc .vmem S144x256 .bf16) (harg16 : arg16.IsWhole) (arg17 : Memref sig .tc .vmem S192x128 .f32) (harg17 : arg17.IsWhole) (arg18 : Memref sig .tc .vmem S24x128x128 .f32) (harg18 : arg18.IsWhole) (arg19 : Memref sig .tc .vmem S192x128 .f32) (harg19 : arg19.IsWhole) (arg20 : Memref sig .tc .vmem S24x128 .f32) (harg20 : arg20.IsWhole) (arg21 : Memref sig .tc .vmem S24x128 .f32) (harg21 : arg21.IsWhole) (hc0 : cond0_0 i) (hc1 : ¬cond0_1 i) (hc2 : cond0_2 i)
    (x0 : Vec F S1x48x64 .bf16) (x1 : Vec F S256x48 .bf16) (x2 : Vec F S1x48 .f32) (x3 : Vec F S1x48 .f32) (x4 : Vec F S1x1x128 .bf16) (x5 : Vec F S1x1x128 .bf16) (x6 : Vec F S24x128 .f32) (x7 : Vec F S1x48x64x128 .fp8e4m3) (x8 : Vec F S1x48x64 .f32) (xt0 : TbBuf0 (F := F) c tbM0_0) (xt1 : TbBuf0 (F := F) c tbM0_1) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ tbPt0 c tbM0_0 xt0 ∗ tbPt0 c tbM0_1 xt1) -∗ K ⟨⟩))
          ⊢ wp frame (wpE (defs₀ (F := F)) Variants.none c none) E (cc0_ssu i tbM0_0 htbM0_0 tbM0_1 htbM0_1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
    intro E K
    simp only [cc0_ssu_eq_skeleton]; unfold cc0_ssu_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2)
    refine wp_ite_cases ?_ ?_ <;> intro hb <;>
      sl_exec (disch := first | sl_exact hc0 | sl_exact hc1 | sl_exact hc2 | sl_exact hb)
    all_goals
     sl_step
     iapply Hk
     isplitl [H0]
     · iexists _; isplitr; · ipureintro; exact harg3.read_unread _
       iexact H0
     isplitl [H1]
     · iexists _; isplitr; · ipureintro; exact harg4.read_unread _
       iexact H1
     isplitl [H2]
     · iexists _; isplitr; · ipureintro; exact harg5.read_unread _
       iexact H2
     isplitl [H3]
     · iexists _; isplitr; · ipureintro; exact harg6.read_unread _
       iexact H3
     isplitl [H4]
     · iexists _; isplitr; · ipureintro; exact harg7.read_unread _
       iexact H4
     isplitl [H5]
     · iexists _; isplitr; · ipureintro; exact harg8.read_unread _
       iexact H5
     isplitl [H6]
     · iexists _; isplitr; · ipureintro; exact harg9.read_unread _
       iexact H6
     isplitl [H7]
     · iexists _; isplitr; · ipureintro; exact harg10.read_unread _
       iexact H7
     isplitl [H8]
     · iexists _; isplitr; · ipureintro; exact harg11.read_unread _
       iexact H8
     isplitl [H9]
     · iexists _, _; isplitr; swap; · iexact H9
       ipureintro; rfl
     isplitl [H10]
     · iexists _, _; isplitr; swap; · iexact H10
       ipureintro; rfl
     isplitl [H11]
     · iexists _, _; isplitr; swap; · iexact H11
       ipureintro; rfl
     isplitl [HS0]
     · iexists _, _; isplitr; swap; · iexact HS0
       ipureintro; rfl
     isplitl [HS1]
     · iexists _, _; isplitr; swap; · iexact HS1
       ipureintro; rfl
     isplitl [HS2]
     · iexists _, _; isplitr; swap; · iexact HS2
       ipureintro; rfl
     isplitl [HS3]
     · iexists _, _; isplitr; swap; · iexact HS3
       ipureintro; rfl
     isplitl [HS4]
     · iexists _, _; isplitr; swap; · iexact HS4
       ipureintro; rfl
     isplitl [HS5]
     · iexists _, _; isplitr; swap; · iexact HS5
       ipureintro; rfl
     isplitl [HS6]
     · iexists _, _; isplitr; swap; · iexact HS6
       ipureintro; rfl
     isplitl [HT0]; · iexact HT0
     iexact HT1

end Cert.KernelIdeal.Gen

end
-- ==== Proof.KernelIdealRunB.lean ====
/- The run of the body at points 1 to 255. -/
module

public import proofs.«01_k».proof.Proof.KernelIdealRuns

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken, `scf.if` 1 not taken, `scf.if` 2 taken: points 1, 2, … 255: 255 of 323): on whole staging memrefs — the inputs' at their contents,
    the FORGOTTEN outputs' (9, 10, 11) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg3 : Memref sig .tc .vmem S1x48x64 .bf16) (harg3 : arg3.IsWhole) (arg4 : Memref sig .tc .vmem S256x48 .bf16) (harg4 : arg4.IsWhole) (arg5 : Memref sig .tc .vmem S1x48 .f32) (harg5 : arg5.IsWhole) (arg6 : Memref sig .tc .vmem S1x48 .f32) (harg6 : arg6.IsWhole) (arg7 : Memref sig .tc .vmem S1x1x128 .bf16) (harg7 : arg7.IsWhole) (arg8 : Memref sig .tc .vmem S1x1x128 .bf16) (harg8 : arg8.IsWhole) (arg9 : Memref sig .tc .vmem S24x128 .f32) (harg9 : arg9.IsWhole) (arg10 : Memref sig .tc .vmem S1x48x64x128 .fp8e4m3) (harg10 : arg10.IsWhole) (arg11 : Memref sig .tc .vmem S1x48x64 .f32) (harg11 : arg11.IsWhole) (arg12 : Memref sig .tc .vmem S1x48x64 .bf16) (harg12 : arg12.IsWhole) (arg13 : Memref sig .tc .vmem S1x48x64x128 .fp8e4m3) (harg13 : arg13.IsWhole) (arg14 : Memref sig .tc .vmem S1x48x64 .f32) (harg14 : arg14.IsWhole) (arg15 : Memref sig .tc .vmem S256x128 .f32) (harg15 : arg15.IsWhole) (arg16 : Memref sig .tc .vmem S144x256 .bf16) (harg16 : arg16.IsWhole) (arg17 : Memref sig .tc .vmem S192x128 .f32) (harg17 : arg17.IsWhole) (arg18 : Memref sig .tc .vmem S24x128x128 .f32) (harg18 : arg18.IsWhole) (arg19 : Memref sig .tc .vmem S192x128 .f32) (harg19 : arg19.IsWhole) (arg20 : Memref sig .tc .vmem S24x128 .f32) (harg20 : arg20.IsWhole) (arg21 : Memref sig .tc .vmem S24x128 .f32) (harg21 : arg21.IsWhole) (hc0 : ¬cond0_0 i) (hc1 : ¬cond0_1 i) (hc2 : cond0_2 i)
    (x0 : Vec F S1x48x64 .bf16) (x1 : Vec F S256x48 .bf16) (x2 : Vec F S1x48 .f32) (x3 : Vec F S1x48 .f32) (x4 : Vec F S1x1x128 .bf16) (x5 : Vec F S1x1x128 .bf16) (x6 : Vec F S24x128 .f32) (x7 : Vec F S1x48x64x128 .fp8e4m3) (x8 : Vec F S1x48x64 .f32) (xt0 : TbBuf0 (F := F) c tbM0_0) (xt1 : TbBuf0 (F := F) c tbM0_1) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ tbPt0 c tbM0_0 xt0 ∗ tbPt0 c tbM0_1 xt1) -∗ K ⟨⟩))
          ⊢ wp frame (wpE (defs₀ (F := F)) Variants.none c none) E (cc0_ssu i tbM0_0 htbM0_0 tbM0_1 htbM0_1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
    intro E K
    simp only [cc0_ssu_eq_skeleton]; unfold cc0_ssu_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2)
    refine wp_ite_cases ?_ ?_ <;> intro hb <;>
      sl_exec (disch := first | sl_exact hc0 | sl_exact hc1 | sl_exact hc2 | sl_exact hb)
    all_goals
     sl_step
     iapply Hk
     isplitl [H0]
     · iexists _; isplitr; · ipureintro; exact harg3.read_unread _
       iexact H0
     isplitl [H1]
     · iexists _; isplitr; · ipureintro; exact harg4.read_unread _
       iexact H1
     isplitl [H2]
     · iexists _; isplitr; · ipureintro; exact harg5.read_unread _
       iexact H2
     isplitl [H3]
     · iexists _; isplitr; · ipureintro; exact harg6.read_unread _
       iexact H3
     isplitl [H4]
     · iexists _; isplitr; · ipureintro; exact harg7.read_unread _
       iexact H4
     isplitl [H5]
     · iexists _; isplitr; · ipureintro; exact harg8.read_unread _
       iexact H5
     isplitl [H6]
     · iexists _; isplitr; · ipureintro; exact harg9.read_unread _
       iexact H6
     isplitl [H7]
     · iexists _; isplitr; · ipureintro; exact harg10.read_unread _
       iexact H7
     isplitl [H8]
     · iexists _; isplitr; · ipureintro; exact harg11.read_unread _
       iexact H8
     isplitl [H9]
     · iexists _, _; isplitr; swap; · iexact H9
       ipureintro; rfl
     isplitl [H10]
     · iexists _, _; isplitr; swap; · iexact H10
       ipureintro; rfl
     isplitl [H11]
     · iexists _, _; isplitr; swap; · iexact H11
       ipureintro; rfl
     isplitl [HS0]
     · iexists _, _; isplitr; swap; · iexact HS0
       ipureintro; rfl
     isplitl [HS1]
     · iexists _, _; isplitr; swap; · iexact HS1
       ipureintro; rfl
     isplitl [HS2]
     · iexists _, _; isplitr; swap; · iexact HS2
       ipureintro; rfl
     isplitl [HS3]
     · iexists _, _; isplitr; swap; · iexact HS3
       ipureintro; rfl
     isplitl [HS4]
     · iexists _, _; isplitr; swap; · iexact HS4
       ipureintro; rfl
     isplitl [HS5]
     · iexists _, _; isplitr; swap; · iexact HS5
       ipureintro; rfl
     isplitl [HS6]
     · iexists _, _; isplitr; swap; · iexact HS6
       ipureintro; rfl
     isplitl [HT0]; · iexact HT0
     iexact HT1

end Cert.KernelIdeal.Gen

end
-- ==== Proof.KernelIdealRunC.lean ====
/- The run of the body at the points past the batch, which copy their slot. -/
module

public import proofs.«01_k».proof.Proof.KernelIdealRuns

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE C (`scf.if` 0 not taken, `scf.if` 1 taken, `scf.if` 2 not taken: points 256, 257, … 322: 67 of 323): on whole staging memrefs — the inputs' at their contents,
    the FORGOTTEN outputs' (9, 10, 11) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (i : grid0.Coords) (arg3 : Memref sig .tc .vmem S1x48x64 .bf16) (harg3 : arg3.IsWhole) (arg4 : Memref sig .tc .vmem S256x48 .bf16) (harg4 : arg4.IsWhole) (arg5 : Memref sig .tc .vmem S1x48 .f32) (harg5 : arg5.IsWhole) (arg6 : Memref sig .tc .vmem S1x48 .f32) (harg6 : arg6.IsWhole) (arg7 : Memref sig .tc .vmem S1x1x128 .bf16) (harg7 : arg7.IsWhole) (arg8 : Memref sig .tc .vmem S1x1x128 .bf16) (harg8 : arg8.IsWhole) (arg9 : Memref sig .tc .vmem S24x128 .f32) (harg9 : arg9.IsWhole) (arg10 : Memref sig .tc .vmem S1x48x64x128 .fp8e4m3) (harg10 : arg10.IsWhole) (arg11 : Memref sig .tc .vmem S1x48x64 .f32) (harg11 : arg11.IsWhole) (arg12 : Memref sig .tc .vmem S1x48x64 .bf16) (harg12 : arg12.IsWhole) (arg13 : Memref sig .tc .vmem S1x48x64x128 .fp8e4m3) (harg13 : arg13.IsWhole) (arg14 : Memref sig .tc .vmem S1x48x64 .f32) (harg14 : arg14.IsWhole) (arg15 : Memref sig .tc .vmem S256x128 .f32) (harg15 : arg15.IsWhole) (arg16 : Memref sig .tc .vmem S144x256 .bf16) (harg16 : arg16.IsWhole) (arg17 : Memref sig .tc .vmem S192x128 .f32) (harg17 : arg17.IsWhole) (arg18 : Memref sig .tc .vmem S24x128x128 .f32) (harg18 : arg18.IsWhole) (arg19 : Memref sig .tc .vmem S192x128 .f32) (harg19 : arg19.IsWhole) (arg20 : Memref sig .tc .vmem S24x128 .f32) (harg20 : arg20.IsWhole) (arg21 : Memref sig .tc .vmem S24x128 .f32) (harg21 : arg21.IsWhole) (hc0 : ¬cond0_0 i) (hc1 : cond0_1 i) (hc2 : ¬cond0_2 i)
    (x0 : Vec F S1x48x64 .bf16) (x1 : Vec F S256x48 .bf16) (x2 : Vec F S1x48 .f32) (x3 : Vec F S1x48 .f32) (x4 : Vec F S1x1x128 .bf16) (x5 : Vec F S1x1x128 .bf16) (x6 : Vec F S24x128 .f32) (x7 : Vec F S1x48x64x128 .fp8e4m3) (x8 : Vec F S1x48x64 .f32) (xt0 : TbBuf0 (F := F) c tbM0_0) (xt1 : TbBuf0 (F := F) c tbM0_1) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ tbPt0 c tbM0_0 xt0 ∗ tbPt0 c tbM0_1 xt1) -∗ K ⟨⟩))
          ⊢ wp frame (wpE (defs₀ (F := F)) Variants.none c none) E (cc0_ssu i tbM0_0 htbM0_0 tbM0_1 htbM0_1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
    intro E K
    simp only [cc0_ssu_eq_skeleton]; unfold cc0_ssu_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HT0]; · iexact HT0
    iexact HT1

end Cert.KernelIdeal.Gen

end
-- ==== Proof.KernelIdealOk.lean ====
/- The side condition of the two prefetched tables. Each table is a list of slots the problem gives, followed by the
   slots nobody writes, which the host takes modulo 323. So every word of both names one of the 323 slots, and each
   table-indexed window has its block inside its array. -/
module

public import proofs.«01_k».proof.Proof.KernelIdealRuns
public import Idealize.ShloMosaic.Lib.Affine
public import Idealize.ShloMosaic.Lib.StableHlo.RunRead
public import Idealize.ShloMosaic.Lib.Pointwise
public import Idealize.ShloMosaic.Lib.ValueIdx
public import Idealize.ShloMosaic.Lib.Pipeline.ValueKit
public import proofs.«01_k».proof.Proof.Gen.Pre_slots_ok

@[expose] public section

set_option maxRecDepth 16384

namespace Cert.KernelIdeal.Gen

open Idealize.ShloMosaic Idealize.ShloMosaic.TcCoe Idealize.ShloMosaic.Tactic Idealize.ShloMosaic.StableHlo

variable {F : FTy → Type} [FloatOps F]

/-- A block one slot long along the first axis and whole along the others is inside an array of 323 slots. -/
theorem blk4 (w : BitVec 32) (h : w.toNat < 323) :
    ∀ a, ((![w.toNat, (0#32).toNat, (0#32).toNat, (0#32).toNat] : Fin 4 → Nat) a + 1) * S1x48x64x128.size a ≤ S323x48x64x128.size a := by
  intro a; fin_cases a <;> simp <;> omega

theorem blk3 (w : BitVec 32) (h : w.toNat < 323) :
    ∀ a, ((![w.toNat, (0#32).toNat, (0#32).toNat] : Fin 3 → Nat) a + 1) * S1x48x64.size a ≤ S323x48x64.size a := by
  intro a; fin_cases a <;> simp <;> omega

/-- Tables whose words are all slots satisfy the pipeline's side condition. -/
theorem ok_of_words (pf : pre0.Contents (Elt F)) (h0 : ∀ y, BitVec.toNat (w := 32) (pf 0 y) < 323)
    (h1 : ∀ y, BitVec.toNat (w := 32) (pf 1 y) < 323) : ok0 pf :=
  ⟨fun i => ⟨blk4 _ (h0 _), .inr (Affine.block_words_rows (by decide) rfl)⟩,
   fun i => ⟨blk3 _ (h0 _), .inl rfl⟩,
   fun i => ⟨blk4 _ (h1 _), .inr (Affine.block_words_rows (by decide) rfl)⟩,
   fun i => ⟨blk3 _ (h1 _), .inl rfl⟩⟩

/-- The remainder by 323 with the sign of the divisor, as the host computes it, is one of the 323 slots. -/
theorem rem_lt (a : BitVec 32) :
    BitVec.toNat (w := 32) (bif (a.srem 323#32).slt 0#32 && !(a.srem 323#32 == 0#32) then a.srem 323#32 + 323#32 else a.srem 323#32) < 323 := by
  have e : (a.srem 323#32).toInt = a.toInt.tmod 323 := by rw [BitVec.toInt_srem]; rfl
  have h1 := Int.tmod_lt_of_pos a.toInt (b := 323) (by decide)
  have h2 := Int.lt_tmod_of_pos a.toInt (b := 323) (by decide)
  generalize a.srem 323#32 = r at *
  rw [← e] at h1 h2
  have hr : BitVec.toNat (w := 32) r < 2 ^ 32 := r.isLt
  by_cases hs : r.toInt < 0
  · have c : (bif r.slt 0#32 && !(r == 0#32) then r + 323#32 else r) = r + 323#32 := by
      have a : r.slt 0#32 = true := by simpa [BitVec.slt] using hs
      have b : (r == 0#32) = false := by
        rw [beq_eq_false_iff_ne]; rintro rfl; exact absurd hs (by decide)
      rw [a, b]; rfl
    rw [c]
    simp only [BitVec.toInt, BitVec.toNat_add, BitVec.toNat_ofNat] at *
    omega
  · have c : (bif r.slt 0#32 && !(r == 0#32) then r + 323#32 else r) = r := by
      have a : r.slt 0#32 = false := by simpa [BitVec.slt] using hs
      rw [a]; rfl
    rw [c]
    simp only [BitVec.toInt] at *
    omega

/-- The host's remainder, word by word. -/
def remV (a : IVec S67 32) : IVec S67 32 := Host.remsi a (fun _ => 323#32)

/-- The host's remainder with the sign of the divisor. -/
def slotV (a : IVec S67 32) : IVec S67 32 :=
  select (andi (cmpi .ne (cmpi .slt (remV a) (fun _ => 0#32)) (fun _ => 0#1)) (cmpi .ne (remV a) (fun _ => 0#32)))
    (addi (remV a) (fun _ => 323#32)) (remV a)

theorem slotV_lt (a : IVec S67 32) (y : S67.Idx) : BitVec.toNat (w := 32) (slotV a y) < 323 := by
  refine lt_of_eq_of_lt ?_ (rem_lt (a y))
  have e : remV a y = (a y).srem 323#32 := by
    show IntOp.remsi .host (a y) 323#32 = _
    have hn : ¬ IntOp.SDivCorner (a y) 323#32 := by rintro (h | ⟨_, h⟩) <;> revert h <;> decide
    exact if_neg hn
  show BitVec.toNat (w := 32) (if (IntOp.andi (IntOp.cmpi .ne (IntOp.cmpi .slt (remV a y) 0#32) 0#1) (IntOp.cmpi .ne (remV a y) 0#32)) = 1#1
    then IntOp.addi (remV a y) 323#32 else remV a y) = _
  rw [e]
  generalize (a y).srem 323#32 = r
  cases h1 : r.slt 0#32 <;> cases h2 : (r == 0#32) <;> simp [IntOp.cmpi, IntOp.andi, IntOp.addi, h1, h2, bne]

/-- The unwritten slots, as the host computes them, are slots. -/
theorem rest_line (W : Valuation τ sig (Elt F)) (hc : W (Proc.devRef .tc main_c_8) = constantI S_ 32 323#32) (y : S67.Idx) :
    BitVec.toNat (w := 32) (after (List.flatten [hostOps0_7, hostOps0_8, hostOps0_9]) W (Proc.devRef .tc main_v29) y) < 323 := by
  have e : ∃ c : IVec S67 1, after (List.flatten [hostOps0_7, hostOps0_8, hostOps0_9]) W (Proc.devRef .tc main_v29)
      = select c (fun _ => 0#32) (slotV (W (Proc.devRef .tc main_v21))) := by
    after_reads_simp
    rw [hc]
    exact ⟨_, rfl⟩
  obtain ⟨c, e⟩ := e
  rw [e]
  show BitVec.toNat (w := 32) (if c y = 1#1 then 0#32 else slotV _ y) < 323
  split_ifs
  · decide
  · exact slotV_lt _ _

/-- The host lines up to the divisor of the remainder. -/
def preLines (m : (ℓ : Loc nD τ sig) → Buf (Elt F) ℓ) (c : Dev nD) : Valuation τ sig (Elt F) :=
  after (List.flatten [hostOps0, hostOps0_1, hostOps0_2, hostOps0_3, hostOps0_4, hostOps0_5, hostOps0_6]) (fun b => m (c, b))

theorem V_eq (m : (ℓ : Loc nD τ sig) → Buf (Elt F) ℓ) (c : Dev nD) (b : Ref sig .tc) :
    V m c b = after hostOps0_10 (after (List.flatten [hostOps0_7, hostOps0_8, hostOps0_9]) (preLines m c)) (Proc.devRef .tc b) := by
  unfold V preLines
  rw [← after_append, ← after_append]
  rfl

theorem pre_c (m : (ℓ : Loc nD τ sig) → Buf (Elt F) ℓ) (c : Dev nD) : preLines m c (Proc.devRef .tc main_c_8) = constantI S_ 32 323#32 := by
  unfold preLines
  after_reads_simp

/-- The slots nobody writes, as the host computes them. -/
def restV (m : (ℓ : Loc nD τ sig) → Buf (Elt F) ℓ) (c : Dev nD) : IVec S67 32 :=
  after (List.flatten [hostOps0_7, hostOps0_8, hostOps0_9]) (preLines m c) (Proc.devRef .tc main_v29)

theorem restV_lt (m : (ℓ : Loc nD τ sig) → Buf (Elt F) ℓ) (c : Dev nD) (y : S67.Idx) : BitVec.toNat (w := 32) (restV m c y) < 323 :=
  rest_line _ (pre_c m c) y

theorem line_src (W : Valuation τ sig (Elt F)) : after hostOps0_10 W (Proc.devRef .tc main_v30)
    = concatenate S323 0 [⟨S256, (W (Proc.devRef .tc main_arg9) : IVec S256 32)⟩, ⟨S67, (W (Proc.devRef .tc main_v29) : IVec S67 32)⟩] concatenates_S256_S67_S323_d0 := by
  after_reads_simp
  rfl

theorem line_out (W : Valuation τ sig (Elt F)) : after hostOps0_10 W (Proc.devRef .tc main_v31)
    = concatenate S323 0 [⟨S256, (W (Proc.devRef .tc main_arg10) : IVec S256 32)⟩, ⟨S67, (W (Proc.devRef .tc main_v29) : IVec S67 32)⟩] concatenates_S256_S67_S323_d0 := by
  after_reads_simp
  rfl

/-- The table of slots read: the item's slots, then the slots nobody writes. -/
theorem V_src (m : (ℓ : Loc nD τ sig) → Buf (Elt F) ℓ) (c : Dev nD) : V m c main_v30
    = concatenate S323 0 [⟨S256, (m ((c : Thread nD τ).loc main_arg9) : IVec S256 32)⟩, ⟨S67, restV m c⟩] concatenates_S256_S67_S323_d0 := by
  have e : after (List.flatten [hostOps0_7, hostOps0_8, hostOps0_9]) (preLines m c) (Proc.devRef .tc main_arg9) = m ((c : Thread nD τ).loc main_arg9) := by
    unfold preLines
    after_reads_simp
  rw [V_eq, line_src, e]
  rfl

/-- The table of slots written: the item's slots, then the slots nobody writes. -/
theorem V_out (m : (ℓ : Loc nD τ sig) → Buf (Elt F) ℓ) (c : Dev nD) : V m c main_v31
    = concatenate S323 0 [⟨S256, (m ((c : Thread nD τ).loc main_arg10) : IVec S256 32)⟩, ⟨S67, restV m c⟩] concatenates_S256_S67_S323_d0 := by
  have e : after (List.flatten [hostOps0_7, hostOps0_8, hostOps0_9]) (preLines m c) (Proc.devRef .tc main_arg10) = m ((c : Thread nD τ).loc main_arg10) := by
    unfold preLines
    after_reads_simp
  rw [V_eq, line_out, e]
  rfl

/-- The first table of the two, read. -/
theorem concat_lo (a : IVec S256 32) (b : IVec S67 32) (i : Fin 256) :
    concatenate S323 0 [⟨S256, a⟩, ⟨S67, b⟩] concatenates_S256_S67_S323_d0 (ix1 ⟨i.val, by omega⟩) = a (ix1 i) := by
  pointwise

/-- The second table of the two, read. -/
theorem concat_hi (a : IVec S256 32) (b : IVec S67 32) (i : Fin 67) :
    concatenate S323 0 [⟨S256, a⟩, ⟨S67, b⟩] concatenates_S256_S67_S323_d0 (ix1 ⟨256 + i.val, by omega⟩) = b (ix1 i) := by
  pointwise

/-- Two tables in a row hold slots when both do. -/
theorem concat_lt (a : IVec S256 32) (b : IVec S67 32) (ha : ∀ y, BitVec.toNat (w := 32) (a y) < 323) (hb : ∀ y, BitVec.toNat (w := 32) (b y) < 323) (y : S323.Idx) :
    BitVec.toNat (w := 32) (concatenate S323 0 [⟨S256, a⟩, ⟨S67, b⟩] concatenates_S256_S67_S323_d0 y) < 323 := by
  have y0 : (y 0).val < 323 := (y 0).isLt
  by_cases h : (y 0).val < 256
  · have e : y = ix1 ⟨(⟨(y 0).val, h⟩ : Fin 256).val, y0⟩ := by
      funext a
      match a with
      | ⟨0, _⟩ => rfl
    rw [e]
    exact lt_of_eq_of_lt (congrArg BitVec.toNat (concat_lo a b ⟨(y 0).val, h⟩)) (ha _)
  · have e : y = ix1 ⟨256 + (⟨(y 0).val - 256, by omega⟩ : Fin 67).val, by show 256 + ((y 0).val - 256) < 323; omega⟩ := by
      funext a
      match a with
      | ⟨0, _⟩ => exact Fin.ext (show (y 0).val = 256 + ((y 0).val - 256) by omega)
    rw [e]
    exact lt_of_eq_of_lt (congrArg BitVec.toNat (concat_hi a b ⟨(y 0).val - 256, by omega⟩)) (hb _)

/-- The precondition, read at an item: both of its slots are among the 323. -/
theorem slots_of_pre (m : (ℓ : Loc nD τ sig) → Buf (Elt F) ℓ)
    (h : (Cert.Pre_slots_ok.fn (F := F) (m (((0 : Dev nD).tc : Thread nD τ).loc main_arg0)) (m (((0 : Dev nD).tc : Thread nD τ).loc main_arg1))
      (m (((0 : Dev nD).tc : Thread nD τ).loc main_arg2)) (m (((0 : Dev nD).tc : Thread nD τ).loc main_arg3)) (m (((0 : Dev nD).tc : Thread nD τ).loc main_arg4))
      (m (((0 : Dev nD).tc : Thread nD τ).loc main_arg5)) (m (((0 : Dev nD).tc : Thread nD τ).loc main_arg6)) (m (((0 : Dev nD).tc : Thread nD τ).loc main_arg7))
      (m (((0 : Dev nD).tc : Thread nD τ).loc main_arg8)) (m (((0 : Dev nD).tc : Thread nD τ).loc main_arg9)) (m (((0 : Dev nD).tc : Thread nD τ).loc main_arg10))) = fun _ => 1#1) (y : S256.Idx) :
    BitVec.toNat (w := 32) (m (((0 : Dev nD).tc : Thread nD τ).loc main_arg9) y) < 323
      ∧ BitVec.toNat (w := 32) (m (((0 : Dev nD).tc : Thread nD τ).loc main_arg10) y) < 323 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun h y
  simp only [Cert.Pre_slots_ok.fn, andi, cmpi, broadcastInDim, constantI, IntOp.cmpi, andi_ofBool, ofBool_eq_one,
    Bool.and_eq_true] at e
  obtain ⟨⟨⟨a, b⟩, c⟩, d⟩ := e
  simp only [BitVec.sle, BitVec.slt, decide_eq_true_eq, BitVec.toInt, BitVec.toNat_ofNat] at a b c d
  constructor <;> omega

/-- The launch memory's tables satisfy the side condition when the precondition holds of it. -/
theorem ok_of_pre (m : (ℓ : Loc nD τ sig) → Buf (Elt F) ℓ)
    (h : (Cert.Pre_slots_ok.fn (F := F) (m (((0 : Dev nD).tc : Thread nD τ).loc main_arg0)) (m (((0 : Dev nD).tc : Thread nD τ).loc main_arg1))
      (m (((0 : Dev nD).tc : Thread nD τ).loc main_arg2)) (m (((0 : Dev nD).tc : Thread nD τ).loc main_arg3)) (m (((0 : Dev nD).tc : Thread nD τ).loc main_arg4))
      (m (((0 : Dev nD).tc : Thread nD τ).loc main_arg5)) (m (((0 : Dev nD).tc : Thread nD τ).loc main_arg6)) (m (((0 : Dev nD).tc : Thread nD τ).loc main_arg7))
      (m (((0 : Dev nD).tc : Thread nD τ).loc main_arg8)) (m (((0 : Dev nD).tc : Thread nD τ).loc main_arg9)) (m (((0 : Dev nD).tc : Thread nD τ).loc main_arg10))) = fun _ => 1#1) : Ok m := by
  refine ok_of_words _ (fun y => ?_) (fun y => ?_)
  · rw [show tbl m 0 = _ from V_src m 0]; exact concat_lt _ _ (fun y => (slots_of_pre m h y).1) (restV_lt m 0) y
  · rw [show tbl m 1 = _ from V_out m 0]; exact concat_lt _ _ (fun y => (slots_of_pre m h y).2) (restV_lt m 0) y

end Cert.KernelIdeal.Gen
-- ==== Proof.KernelIdealFrame.lean ====
/- The frame of the kernel: the proof data of its pipeline, the body obligation, and the claim. -/
module

public import proofs.«01_k».proof.Proof.KernelIdealRunA
public import proofs.«01_k».proof.Proof.KernelIdealRunB
public import proofs.«01_k».proof.Proof.KernelIdealRunC
public import proofs.«01_k».proof.Proof.KernelIdealOk
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (9, 10, 11): nothing reads what the kernel leaves in them, so nothing
    of it is named (Lib/Pipeline/Dat.lean `Dat.toRForget`). -/
def forgets0 : Fin 12 → Bool := fun w => w.val == 9 || w.val == 10 || w.val == 11

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, h⟩ => Pipeline.Dat.unnamed (cfg := (cfgM m hO)) ⟨9, h⟩ t
    | ⟨10, h⟩ => Pipeline.Dat.unnamed (cfg := (cfgM m hO)) ⟨10, h⟩ t
    | ⟨11, h⟩ => Pipeline.Dat.unnamed (cfg := (cfgM m hO)) ⟨11, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d))

set_option maxHeartbeats 4800000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8]
  rw [show (dats m hO 0 c).Φ t.succ = (dats m hO 0 c).Φ t.castSucc from rfl,
    show (dats m hO 0 c).owesAt () t.succ = (dats m hO 0 c).owesAt () t.castSucc from rfl]
  rw [show (dats m hO 0 c).Φ t.castSucc = iprop(Pipeline.ΦA spec0 c ∗ Pipeline.ΦT pre0 (tbl m) c) from rfl, PhiT0_eq, PhiA0_eq]
  have hN : t.val < 323 := lt_of_lt_of_eq t.isLt (show (cfgM m hO).N = 323 from N_0)
  by_cases h0 : t.val % 323 = 0
  · by_cases h1 : 256 ≤ t.val
    · exfalso; omega
    · by_cases h2 : t.val < 256
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [show (dats m hO 0 c).leavesExact 6 t = owns (c : Thread nD τ) (ms0_6 m hO t) fullShare ((dats m hO 0 c).after 6 t) from by
      unfold Dat.leavesExact; rw [liveAt0_6 m hO t]; try rfl, after0_6]
        rw [show (dats m hO 0 c).leavesExact 7 t = owns (c : Thread nD τ) (ms0_7 m hO t) fullShare ((dats m hO 0 c).after 7 t) from by
      unfold Dat.leavesExact; rw [liveAt0_7 m hO t]; try rfl, after0_7]
        rw [show (dats m hO 0 c).leavesExact 8 t = owns (c : Thread nD τ) (ms0_8 m hO t) fullShare ((dats m hO 0 c).after 8 t) from by
      unfold Dat.leavesExact; rw [liveAt0_8 m hO t]; try rfl, after0_8]
        iintro ⟨⟨⟨⟨HS0, HS1, HS2, HS3, HS4, HS5, HS6⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_A c (grid0.coords t) _ _ _ _ _ _ _ _ _ _ _ _ _ _ _ _ _ _ _ _ _ _ _ _ _ _ _ _ _ _ _ _ _ _ _ _ _ _ ((hcond0_0 t).mpr h0) (fun h => h1 ((hcond0_1 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        isplitl [H11]; · iexists _; iexact H11
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HT0]; · iexact HT0
        isplitl [HT1]; · iexact HT1
        iintro ⟨H0, H1, H2, H3, H4, H5, H6, H7, H8, H9, H10, H11, HS0, HS1, HS2, HS3, HS4, HS5, HS6, HT0, HT1⟩
        isplitl [HS0 HS1 HS2 HS3 HS4 HS5 HS6 Hg HT0 HT1]
        · isplitl [HS0 HS1 HS2 HS3 HS4 HS5 HS6 Hg]
          · isplitl [HS0 HS1 HS2 HS3 HS4 HS5 HS6]
            · isplitl [HS0]
              · iexact HS0
              isplitl [HS1]
              · iexact HS1
              isplitl [HS2]
              · iexact HS2
              isplitl [HS3]
              · iexact HS3
              isplitl [HS4]
              · iexact HS4
              isplitl [HS5]
              · iexact HS5
              iexact HS6
            iexact Hg
          isplitl [HT0]; · iexact HT0
          iexact HT1
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexact H11
      · exfalso; omega
  · by_cases h1 : 256 ≤ t.val
    · by_cases h2 : t.val < 256
      · exfalso; omega
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [show (dats m hO 0 c).leavesExact 6 t = owns (c : Thread nD τ) (ms0_6 m hO t) fullShare ((dats m hO 0 c).after 6 t) from by
      unfold Dat.leavesExact; rw [liveAt0_6 m hO t]; try rfl, after0_6]
        rw [show (dats m hO 0 c).leavesExact 7 t = owns (c : Thread nD τ) (ms0_7 m hO t) fullShare ((dats m hO 0 c).after 7 t) from by
      unfold Dat.leavesExact; rw [liveAt0_7 m hO t]; try rfl, after0_7]
        rw [show (dats m hO 0 c).leavesExact 8 t = owns (c : Thread nD τ) (ms0_8 m hO t) fullShare ((dats m hO 0 c).after 8 t) from by
      unfold Dat.leavesExact; rw [liveAt0_8 m hO t]; try rfl, after0_8]
        iintro ⟨⟨⟨⟨HS0, HS1, HS2, HS3, HS4, HS5, HS6⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_C c (grid0.coords t) _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        isplitl [H11]; · iexists _; iexact H11
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HT0]; · iexact HT0
        isplitl [HT1]; · iexact HT1
        iintro ⟨H0, H1, H2, H3, H4, H5, H6, H7, H8, H9, H10, H11, HS0, HS1, HS2, HS3, HS4, HS5, HS6, HT0, HT1⟩
        isplitl [HS0 HS1 HS2 HS3 HS4 HS5 HS6 Hg HT0 HT1]
        · isplitl [HS0 HS1 HS2 HS3 HS4 HS5 HS6 Hg]
          · isplitl [HS0 HS1 HS2 HS3 HS4 HS5 HS6]
            · isplitl [HS0]
              · iexact HS0
              isplitl [HS1]
              · iexact HS1
              isplitl [HS2]
              · iexact HS2
              isplitl [HS3]
              · iexact HS3
              isplitl [HS4]
              · iexact HS4
              isplitl [HS5]
              · iexact HS5
              iexact HS6
            iexact Hg
          isplitl [HT0]; · iexact HT0
          iexact HT1
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexact H11
    · by_cases h2 : t.val < 256
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [show (dats m hO 0 c).leavesExact 6 t = owns (c : Thread nD τ) (ms0_6 m hO t) fullShare ((dats m hO 0 c).after 6 t) from by
      unfold Dat.leavesExact; rw [liveAt0_6 m hO t]; try rfl, after0_6]
        rw [show (dats m hO 0 c).leavesExact 7 t = owns (c : Thread nD τ) (ms0_7 m hO t) fullShare ((dats m hO 0 c).after 7 t) from by
      unfold Dat.leavesExact; rw [liveAt0_7 m hO t]; try rfl, after0_7]
        rw [show (dats m hO 0 c).leavesExact 8 t = owns (c : Thread nD τ) (ms0_8 m hO t) fullShare ((dats m hO 0 c).after 8 t) from by
      unfold Dat.leavesExact; rw [liveAt0_8 m hO t]; try rfl, after0_8]
        iintro ⟨⟨⟨⟨HS0, HS1, HS2, HS3, HS4, HS5, HS6⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_B c (grid0.coords t) _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        isplitl [H11]; · iexists _; iexact H11
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HT0]; · iexact HT0
        isplitl [HT1]; · iexact HT1
        iintro ⟨H0, H1, H2, H3, H4, H5, H6, H7, H8, H9, H10, H11, HS0, HS1, HS2, HS3, HS4, HS5, HS6, HT0, HT1⟩
        isplitl [HS0 HS1 HS2 HS3 HS4 HS5 HS6 Hg HT0 HT1]
        · isplitl [HS0 HS1 HS2 HS3 HS4 HS5 HS6 Hg]
          · isplitl [HS0 HS1 HS2 HS3 HS4 HS5 HS6]
            · isplitl [HS0]
              · iexact HS0
              isplitl [HS1]
              · iexact HS1
              isplitl [HS2]
              · iexact HS2
              isplitl [HS3]
              · iexact HS3
              isplitl [HS4]
              · iexact HS4
              isplitl [HS5]
              · iexact HS5
              iexact HS6
            iexact Hg
          isplitl [HT0]; · iexact HT0
          iexact HT1
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexact H11
      · exfalso; omega

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget`'s implicit arguments are found by unifying its conclusion with this one, which takes unfolding plain
-- definitions in a metavariable's type
set_option maxHeartbeats 2000000 in
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 9, 10, 11) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ hO (fun c => (dats m hO 0 c).toRForget forgets0) (A_eq m hO) (run_main m ρ hO)

/-- THE FRAME: `Cert.quiescent_KernelIdeal`'s statement (Defs.lean) at any `F` — Proof.lean cites it at `Bits`:
    here for every contents of the PREFETCHED TABLES, UNDER `Gen.Ok m` (the pipeline's side condition of
    them), which Proof.lean proves from the precondition: `⟨…, fun m ρ h => Cert.KernelIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ hO) ((θ_run defs _ _).mono (fun _ h => h.2) (run_main_quiescent m ρ hO))

end Cert.KernelIdeal.Gen

end
-- ==== Proof.ValMain.lean ====
/- One step of the kernel at a point of the batch: the program and what it leaves in its buffers, as the pieces its
   stores write. -/
module

public import proofs.«01_k».proof.Proof.KernelIdealRuns

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The program of a point of the batch: the body's last region. -/
noncomputable def mainProg (i : grid0.Coords) (arg1 : Memref sig .tc .smem S323 .i32) (harg1 : arg1.IsWhole) (arg2 : Memref sig .tc .smem S323 .i32) (harg2 : arg2.IsWhole) (arg3 : Memref sig .tc .vmem S1x48x64 .bf16) (harg3 : arg3.IsWhole) (arg4 : Memref sig .tc .vmem S256x48 .bf16) (harg4 : arg4.IsWhole) (arg5 : Memref sig .tc .vmem S1x48 .f32) (harg5 : arg5.IsWhole) (arg6 : Memref sig .tc .vmem S1x48 .f32) (harg6 : arg6.IsWhole) (arg7 : Memref sig .tc .vmem S1x1x128 .bf16) (harg7 : arg7.IsWhole) (arg8 : Memref sig .tc .vmem S1x1x128 .bf16) (harg8 : arg8.IsWhole) (arg9 : Memref sig .tc .vmem S24x128 .f32) (harg9 : arg9.IsWhole) (arg10 : Memref sig .tc .vmem S1x48x64x128 .fp8e4m3) (harg10 : arg10.IsWhole) (arg11 : Memref sig .tc .vmem S1x48x64 .f32) (harg11 : arg11.IsWhole) (arg12 : Memref sig .tc .vmem S1x48x64 .bf16) (harg12 : arg12.IsWhole) (arg13 : Memref sig .tc .vmem S1x48x64x128 .fp8e4m3) (harg13 : arg13.IsWhole) (arg14 : Memref sig .tc .vmem S1x48x64 .f32) (harg14 : arg14.IsWhole) (arg15 : Memref sig .tc .vmem S256x128 .f32) (harg15 : arg15.IsWhole) (arg16 : Memref sig .tc .vmem S144x256 .bf16) (harg16 : arg16.IsWhole) (arg17 : Memref sig .tc .vmem S192x128 .f32) (harg17 : arg17.IsWhole) (arg18 : Memref sig .tc .vmem S24x128x128 .f32) (harg18 : arg18.IsWhole) (arg19 : Memref sig .tc .vmem S192x128 .f32) (harg19 : arg19.IsWhole) (arg20 : Memref sig .tc .vmem S24x128 .f32) (harg20 : arg20.IsWhole) (arg21 : Memref sig .tc .vmem S24x128 .f32) (harg21 : arg21.IsWhole) (k0_h3 : k0_cond3 i = 1#1) :
    Prog (TpuEff nD τ sig (Elt F) Λ₀ .tc) PUnit := do
  let ⟨v36, v37, v70, v2404⟩ : Σ' (v36 : FVec F S24x128 .f32) (v37 : FVec F S24x128 .f32) (v70 : FVec F S1x128 .f32), BitVec 1 ← k0_part61 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 0).val) k0_h3
  if v2404 = 1#1 then do
    let v2408 : Vec F S24x128 .f32 ← Prog.lift (.load arg21 (Rect.unit (s := S24x128) ![0, 0] S24x128.size inb_S24x128_S24x128_0_0).toLoadRect (View.loadsAt_vmem h_S24x128))
    Prog.lift (.store arg21 (Rect.unit (s := S24x128) ![0, 0] S24x128.size inb_S24x128_S24x128_0_0) (k0_pay4 v37) Finset.univ (View.stores_vmem_bits_univ h_S24x128 rfl) (.inl rfl))
    let v2411 : Vec F S24x128 .f32 ← Prog.lift (.load arg17 (⟨![0, 0], S24x128.size, ![8, 1], inb_S192x128_S24x128_0_0_s_8_1⟩ : LoadRect S192x128) (View.loadsAt_vmem h_S24x128))
    Prog.lift (.store arg17 ⟨(⟨![0, 0], S24x128.size, ![8, 1], inb_S192x128_S24x128_0_0_s_8_1⟩ : LoadRect S192x128), spos_8_1⟩ (k0_pay5 v36) Finset.univ (View.stores_vmem_bits_univ h_S24x128 rfl) (.inl rfl))
    Scf.Loop.for k0_t1_loop (k0_t1_ok i k0_h3) ⟨⟩ (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h3 v70)
    let v2415 : Vec F S24x128 .f32 ← Prog.lift (.load arg20 (Rect.unit (s := S24x128) ![0, 0] S24x128.size inb_S24x128_S24x128_0_0).toLoadRect (View.loadsAt_vmem h_S24x128))
    let v2419 : Vec F S1x48x64 .f32 ← Prog.lift (.load arg14 (Rect.unit (s := S1x48x64) ![0, 0, 0] S1x48x64.size inb_S1x48x64_S1x48x64_0_0_0).toLoadRect (View.loadsAt_vmem h_S1x48x64))
    Prog.lift (.store arg14 (Rect.unit (s := S1x48x64) ![0, 0, 0] S1x48x64.size inb_S1x48x64_S1x48x64_0_0_0) (k0_pay11 v2415) Finset.univ (View.stores_vmem_bits_univ h_S1x48x64 rfl) (.inl rfl))
    pure ⟨⟩
  else do
    pure ⟨⟩

set_option maxHeartbeats 1000000 in
/-- The step on any buffers: the inputs come back as they were, the table of coefficients too; the witness is the
    pieces stored into `y` and into the left matrix. -/
def mainRun (c : Dev nD) (i : grid0.Coords) (arg3 : Memref sig .tc .vmem S1x48x64 .bf16) (harg3 : arg3.IsWhole) (arg4 : Memref sig .tc .vmem S256x48 .bf16) (harg4 : arg4.IsWhole) (arg5 : Memref sig .tc .vmem S1x48 .f32) (harg5 : arg5.IsWhole) (arg6 : Memref sig .tc .vmem S1x48 .f32) (harg6 : arg6.IsWhole) (arg7 : Memref sig .tc .vmem S1x1x128 .bf16) (harg7 : arg7.IsWhole) (arg8 : Memref sig .tc .vmem S1x1x128 .bf16) (harg8 : arg8.IsWhole) (arg9 : Memref sig .tc .vmem S24x128 .f32) (harg9 : arg9.IsWhole) (arg10 : Memref sig .tc .vmem S1x48x64x128 .fp8e4m3) (harg10 : arg10.IsWhole) (arg11 : Memref sig .tc .vmem S1x48x64 .f32) (harg11 : arg11.IsWhole) (arg12 : Memref sig .tc .vmem S1x48x64 .bf16) (harg12 : arg12.IsWhole) (arg13 : Memref sig .tc .vmem S1x48x64x128 .fp8e4m3) (harg13 : arg13.IsWhole) (arg14 : Memref sig .tc .vmem S1x48x64 .f32) (harg14 : arg14.IsWhole) (arg15 : Memref sig .tc .vmem S256x128 .f32) (harg15 : arg15.IsWhole) (arg16 : Memref sig .tc .vmem S144x256 .bf16) (harg16 : arg16.IsWhole) (arg17 : Memref sig .tc .vmem S192x128 .f32) (harg17 : arg17.IsWhole) (arg18 : Memref sig .tc .vmem S24x128x128 .f32) (harg18 : arg18.IsWhole) (arg19 : Memref sig .tc .vmem S192x128 .f32) (harg19 : arg19.IsWhole) (arg20 : Memref sig .tc .vmem S24x128 .f32) (harg20 : arg20.IsWhole) (arg21 : Memref sig .tc .vmem S24x128 .f32) (harg21 : arg21.IsWhole) (k0_h3 : k0_cond3 i = 1#1)
    (x0 : Vec F S1x48x64 .bf16) (x4 : Vec F S1x1x128 .bf16) (x5 : Vec F S1x1x128 .bf16) (x6 : Vec F S24x128 .f32) (x7 : Vec F S1x48x64x128 .fp8e4m3) (x8 : Vec F S1x48x64 .f32) (xd : Vec F S256x128 .f32) (xl : Vec F S144x256 .bf16) (xq : Vec F S192x128 .f32) :
    Σ' (L12 : List (View.Piece (Elt F) S1x48x64 .bf16)), { LS : List (View.Piece (Elt F) S144x256 .bf16) // ∀ (E : Set ℕ) (K : PUnit → sProp 𝕄),
        iprop(owns (c : Thread nD τ) arg3 fullShare x0 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg15 fullShare xd ∗ owns (c : Thread nD τ) arg16 fullShare xl ∗ owns (c : Thread nD τ) arg17 fullShare xq ∗ (∃ d, owns (c : Thread nD τ) arg12 fullShare d) ∗ (∃ d, owns (c : Thread nD τ) arg13 fullShare d) ∗ (∃ d, owns (c : Thread nD τ) arg14 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg3 fullShare x0 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg15 fullShare xd ∗ (arg16.view.loc (c : Thread nD τ) ↦[arg16.view.set]{fullShare} arg16.view.writes (Elt F) (harg16.unread xl) LS) ∗ (∃ d, owns (c : Thread nD τ) arg17 fullShare d) ∗ (∃ f, (arg12.view.loc (c : Thread nD τ) ↦[arg12.view.set]{fullShare} arg12.view.writes (Elt F) f L12)) ∗ (∃ d, owns (c : Thread nD τ) arg13 fullShare d) ∗ (∃ d, owns (c : Thread nD τ) arg14 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
          ⊢ wp frame (wpE (defs₀ (F := F)) Variants.none c none) E (mainProg i tbM0_0 htbM0_0 tbM0_1 htbM0_1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h3) K } := by
    refine ⟨?_, ?_, fun E K => ?run⟩
    case run =>
      unfold mainProg owns
      iintro ⟨⟨%f3, %hf3, H3⟩, ⟨%f7, %hf7, H7⟩, ⟨%f8, %hf8, H8⟩, ⟨%f9, %hf9, H9⟩, ⟨%f10, %hf10, H10⟩, ⟨%f11, %hf11, H11⟩, ⟨%f15, %hf15, H15⟩, ⟨%f16, %hf16, H16⟩, ⟨%f17, %hf17, H17⟩, ⟨%d12, %f12, -, H12⟩, ⟨%d13, %f13, -, H13⟩, ⟨%d14, %f14, -, H14⟩, ⟨%d18, %f18, -, H18⟩, ⟨%d19, %f19, -, H19⟩, ⟨%d20, %f20, -, H20⟩, ⟨%d21, %f21, -, H21⟩, Hk⟩
      obtain rfl := harg3.eq_unread hf3; obtain rfl := harg7.eq_unread hf7; obtain rfl := harg8.eq_unread hf8; obtain rfl := harg9.eq_unread hf9; obtain rfl := harg10.eq_unread hf10; obtain rfl := harg11.eq_unread hf11; obtain rfl := harg15.eq_unread hf15; obtain rfl := harg16.eq_unread hf16; obtain rfl := harg17.eq_unread hf17
      sl_exec
      refine wp_ite_cases ?_ ?_ <;> intro hb
      · sl_exec (disch := sl_exact hb)
        sl_step
        iapply Hk
        isplitl [H3]
        · iexists _; isplitr; · ipureintro; exact harg3.read_unread _
          iexact H3
        isplitl [H7]
        · iexists _; isplitr; · ipureintro; exact harg7.read_unread _
          iexact H7
        isplitl [H8]
        · iexists _; isplitr; · ipureintro; exact harg8.read_unread _
          iexact H8
        isplitl [H9]
        · iexists _; isplitr; · ipureintro; exact harg9.read_unread _
          iexact H9
        isplitl [H10]
        · iexists _; isplitr; · ipureintro; exact harg10.read_unread _
          iexact H10
        isplitl [H11]
        · iexists _; isplitr; · ipureintro; exact harg11.read_unread _
          iexact H11
        isplitl [H15]
        · iexists _; isplitr; · ipureintro; exact harg15.read_unread _
          iexact H15
        isplitl [H16]; · iexact H16
        isplitl [H17]
        · iexists _, _; isplitr; swap; · iexact H17
          ipureintro; rfl
        isplitl [H12]; · iexists _; iexact H12
        isplitl [H13]
        · iexists _, _; isplitr; swap; · iexact H13
          ipureintro; exact rfl
        isplitl [H14]
        · iexists _, _; isplitr; swap; · iexact H14
          ipureintro; exact rfl
        isplitl [H18]
        · iexists _, _; isplitr; swap; · iexact H18
          ipureintro; rfl
        isplitl [H19]
        · iexists _, _; isplitr; swap; · iexact H19
          ipureintro; rfl
        isplitl [H20]
        · iexists _, _; isplitr; swap; · iexact H20
          ipureintro; rfl
        iexists _, _; isplitr; swap; · iexact H21
        ipureintro; rfl
      · sl_exec (disch := sl_exact hb)
        sl_step
        iapply Hk
        isplitl [H3]
        · iexists _; isplitr; · ipureintro; exact harg3.read_unread _
          iexact H3
        isplitl [H7]
        · iexists _; isplitr; · ipureintro; exact harg7.read_unread _
          iexact H7
        isplitl [H8]
        · iexists _; isplitr; · ipureintro; exact harg8.read_unread _
          iexact H8
        isplitl [H9]
        · iexists _; isplitr; · ipureintro; exact harg9.read_unread _
          iexact H9
        isplitl [H10]
        · iexists _; isplitr; · ipureintro; exact harg10.read_unread _
          iexact H10
        isplitl [H11]
        · iexists _; isplitr; · ipureintro; exact harg11.read_unread _
          iexact H11
        isplitl [H15]
        · iexists _; isplitr; · ipureintro; exact harg15.read_unread _
          iexact H15
        isplitl [H16]; · iexact H16
        isplitl [H17]
        · iexists _, _; isplitr; swap; · iexact H17
          ipureintro; rfl
        isplitl [H12]; · iexists _; iexact H12
        isplitl [H13]
        · iexists _, _; isplitr; swap; · iexact H13
          ipureintro; exact rfl
        isplitl [H14]
        · iexists _, _; isplitr; swap; · iexact H14
          ipureintro; exact rfl
        isplitl [H18]
        · iexists _, _; isplitr; swap; · iexact H18
          ipureintro; rfl
        isplitl [H19]
        · iexists _, _; isplitr; swap; · iexact H19
          ipureintro; rfl
        isplitl [H20]
        · iexists _, _; isplitr; swap; · iexact H20
          ipureintro; rfl
        iexists _, _; isplitr; swap; · iexact H21
        ipureintro; rfl

end Cert.KernelIdeal.Gen

end
-- ==== Proof.ValTile.lean ====
/- What one product of the step holds in the row of the output contraction: over the extended reals the row below the
   identity is the output vector against the tile's codes, whatever the rows below the codes hold. -/
module

public import proofs.«01_k».proof.Proof.ValMain
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.Sem

/-- The output row of the first tile of a pair. -/
def ycA (lhs : Vec Ideal S144x144 .bf16) (a b : Vec Ideal S1x1x64x128 .fp8e4m3) (q : Vec Ideal S8x128 .f32)
    (a' b' : Vec Ideal S1x1x64x128 .fp8e4m3) (q' : Vec Ideal S8x128 .f32) : FVec Ideal S1x128 .f32 :=
  k0_pay47 (k0_pay43 a b q a' b' q') lhs

/-- The output row of the second tile of a pair. -/
def ycB (lhs : Vec Ideal S144x144 .bf16) (a b : Vec Ideal S1x1x64x128 .fp8e4m3) (q : Vec Ideal S8x128 .f32)
    (a' b' : Vec Ideal S1x1x64x128 .fp8e4m3) (q' : Vec Ideal S8x128 .f32) : FVec Ideal S1x128 .f32 :=
  k0_pay53 (k0_pay44 (k0_pay43 a b q a' b' q') lhs)

/-- A sum of products over the 144 rows of which the factors of the last sixteen are zero. -/
theorem sum144 (f g : Fin 144 → EReal) (hz : ∀ k : Fin 144, 128 ≤ k.val → f k = 0) :
    ∑ k : Fin 144, f k * g k = ∑ k : Fin 128, f ⟨k.val, by omega⟩ * g ⟨k.val, by omega⟩ := by
  rw [Fin.sum_univ_add (a := 128) (b := 16) (fun k : Fin (128 + 16) => f k * g k)]
  have h2 : ∀ k : Fin 16, f (Fin.natAdd 128 k) * g (Fin.natAdd 128 k) = 0 := fun k => by
    rw [hz (Fin.natAdd 128 k) (by simp), zero_mul]
  rw [Finset.sum_congr rfl fun k _ => h2 k, Finset.sum_const_zero, add_zero]
  rfl

theorem ycA_sum (lhs : Vec Ideal S144x144 .bf16) (rhs : FVec Ideal S144x256 .bf16) (l : Fin 128) :
    k0_pay47 rhs lhs (ix2 0 l) = ∑ k : Fin 144, lhs (ix2 128 k) * rhs (ix2 k ⟨l.val, by omega⟩) := by
  pointwise [k0_pay47, k0_pay45, k0_pay44]

theorem ycB_sum (lhs : Vec Ideal S144x144 .bf16) (rhs : FVec Ideal S144x256 .bf16) (l : Fin 128) :
    k0_pay53 (k0_pay44 rhs lhs) (ix2 0 l) = ∑ k : Fin 144, lhs (ix2 128 k) * rhs (ix2 k ⟨128 + l.val, by omega⟩) := by
  pointwise [k0_pay53, k0_pay51, k0_pay44]

/-- A code of the tile whose two halves are `a` and `b`, at lane `l` and channel `k`. -/
def tileAt (a b : Vec Ideal S1x1x64x128 .fp8e4m3) (l k : Fin 128) : EReal :=
  if h : l.val < 64 then a (ix4 0 0 ⟨l.val, h⟩ k) else b (ix4 0 0 ⟨l.val - 64, by omega⟩ k)

theorem rhsA_apply (a b : Vec Ideal S1x1x64x128 .fp8e4m3) (q : Vec Ideal S8x128 .f32)
    (a' b' : Vec Ideal S1x1x64x128 .fp8e4m3) (q' : Vec Ideal S8x128 .f32) (k l : Fin 128) :
    k0_pay43 a b q a' b' q' (ix2 ⟨k.val, by omega⟩ ⟨l.val, by omega⟩) = tileAt a b l k := by
  pointwise [k0_pay43, tileAt]

theorem rhsB_apply (a b : Vec Ideal S1x1x64x128 .fp8e4m3) (q : Vec Ideal S8x128 .f32)
    (a' b' : Vec Ideal S1x1x64x128 .fp8e4m3) (q' : Vec Ideal S8x128 .f32) (k l : Fin 128) :
    k0_pay43 a b q a' b' q' (ix2 ⟨k.val, by omega⟩ ⟨128 + l.val, by omega⟩) = tileAt a' b' l k := by
  pointwise [k0_pay43, tileAt]

theorem ycA_apply (lhs : Vec Ideal S144x144 .bf16) (a b : Vec Ideal S1x1x64x128 .fp8e4m3) (q : Vec Ideal S8x128 .f32)
    (a' b' : Vec Ideal S1x1x64x128 .fp8e4m3) (q' : Vec Ideal S8x128 .f32)
    (hz : ∀ k : Fin 144, 128 ≤ k.val → lhs (ix2 128 k) = (0 : EReal)) (l : Fin 128) :
    ycA lhs a b q a' b' q' (ix2 0 l) = ∑ k : Fin 128, lhs (ix2 128 ⟨k.val, by omega⟩) * tileAt a b l k := by
  unfold ycA
  rw [ycA_sum, sum144 (fun k => lhs (ix2 128 k)) (fun k => k0_pay43 a b q a' b' q' (ix2 k ⟨l.val, by omega⟩)) hz]
  exact Finset.sum_congr rfl fun k _ => congrArg (_ * ·) (rhsA_apply a b q a' b' q' k l)

theorem ycB_apply (lhs : Vec Ideal S144x144 .bf16) (a b : Vec Ideal S1x1x64x128 .fp8e4m3) (q : Vec Ideal S8x128 .f32)
    (a' b' : Vec Ideal S1x1x64x128 .fp8e4m3) (q' : Vec Ideal S8x128 .f32)
    (hz : ∀ k : Fin 144, 128 ≤ k.val → lhs (ix2 128 k) = (0 : EReal)) (l : Fin 128) :
    ycB lhs a b q a' b' q' (ix2 0 l) = ∑ k : Fin 128, lhs (ix2 128 ⟨k.val, by omega⟩) * tileAt a' b' l k := by
  unfold ycB
  rw [ycB_sum, sum144 (fun k => lhs (ix2 128 k)) (fun k => k0_pay43 a b q a' b' q' (ix2 k ⟨128 + l.val, by omega⟩)) hz]
  exact Finset.sum_congr rfl fun k _ => congrArg (_ * ·) (rhsB_apply a b q a' b' q' k l)

/-! ## The factors of the step -/

/-- Row `tt` of the two-halves layout at lane `l`: head `tt` in the left lanes, head `24 + tt` in the right. -/
def headOf (tt : Fin 24) (l : Fin 128) : Fin 48 := if l.val < 64 then ⟨tt.val, by omega⟩ else ⟨24 + tt.val, by omega⟩
def chanOf (l : Fin 128) : Fin 64 := if h : l.val < 64 then ⟨l.val, h⟩ else ⟨l.val - 64, by omega⟩

theorem x_apply (v : Vec Ideal S1x48x64 .bf16) (tt : Fin 24) (l : Fin 128) :
    k0_pay22 v (ix2 tt l) = v (ix3 0 (headOf tt l) (chanOf l)) := by
  pointwise [k0_pay22, headOf, chanOf]
  split <;> rename_i h <;> simp [h]

theorem halfBit : ∀ l : Fin 128, IntOp.cmpi CmpIPredicate.slt (BitVec.ofNat 32 l.val) 64#32 = if l.val < 64 then 1#1 else 0#1 := by
  decide +kernel

theorem d_apply (r : Vec Ideal S1x128 .f32) (v : Vec Ideal S1x48x64 .bf16) (tt : Fin 24) (l : Fin 128) :
    k0_pay24 r v (ix2 tt l) = r (ix2 0 ⟨(headOf tt l).val, by omega⟩) * v (ix3 0 (headOf tt l) (chanOf l)) := by
  pointwise [k0_pay24, k0_pay22, k0_pay21, k0_pay20, headOf, chanOf]
  rw [halfBit]
  split <;> rename_i h <;> simp [h, Scalar.select]

theorem s_apply (r : Vec Ideal S1x128 .f32) (v : Vec Ideal S1x48x64 .f32) (tt : Fin 24) (l : Fin 128) :
    k0_pay25 r v (ix2 tt l) = r (ix2 0 ⟨64 + (headOf tt l).val, by omega⟩) * v (ix3 0 (headOf tt l) (chanOf l)) := by
  pointwise [k0_pay25, k0_pay21, k0_pay20, headOf, chanOf]
  rw [halfBit]
  split <;> rename_i h <;> simp [h, Scalar.select, ← Nat.add_assoc]

theorem bc_apply (b c : Vec Ideal S1x1x128 .bf16) :
    k0_pay38 b c (ix2 0 0) = ∑ k : Fin 128, (b (ix3 0 0 k) : EReal) * c (ix3 0 0 k) := by
  pointwise [k0_pay38, k0_pay36, k0_pay37]

/-- Where head `h` and channel `p` lie in the two-halves layout. -/
def rowOf (h : Fin 48) : Fin 24 := if hh : h.val < 24 then ⟨h.val, hh⟩ else ⟨h.val - 24, by omega⟩
def laneOf (h : Fin 48) (p : Fin 64) : Fin 128 := if h.val < 24 then ⟨p.val, by omega⟩ else ⟨64 + p.val, by omega⟩

theorem headOf_laneOf (h : Fin 48) (p : Fin 64) : headOf (rowOf h) (laneOf h p) = h := by
  unfold headOf rowOf laneOf
  apply Fin.ext
  by_cases hh : h.val < 24
  · simp [hh, p.isLt]
  · simp [hh]; omega

theorem chanOf_laneOf (h : Fin 48) (p : Fin 64) : chanOf (laneOf h p) = p := by
  unfold chanOf laneOf
  apply Fin.ext
  by_cases hh : h.val < 24
  · simp [hh, p.isLt]
  · simp [hh]

theorem y_apply (x dp d s : FVec Ideal S24x128 .f32) (bc : FVec Ideal S1x1 .f32) (yc : Vec Ideal S24x128 .f32) (h : Fin 48) (p : Fin 64) :
    k0_pay210 x dp d s bc yc (ix3 0 h p)
      = s (ix2 (rowOf h) (laneOf h p)) * yc (ix2 (rowOf h) (laneOf h p)) + d (ix2 (rowOf h) (laneOf h p)) * bc (ix2 0 0)
        + dp (ix2 (rowOf h) (laneOf h p)) * x (ix2 (rowOf h) (laneOf h p)) := by
  pointwise [k0_pay210, rowOf, laneOf]
  split <;> rename_i h <;> simp [h]

/-- The output vector's row of the left matrix. -/
theorem crow_apply (v : FVec Ideal S1x128 .f32) (k : Fin 128) : k0_pay41 v k0_pay40 (ix2 0 k) = v (ix2 0 k) := by
  pointwise [k0_pay41, k0_pay40]

end Cert.KernelIdeal.Gen

end
-- ==== Proof.ValY.lean ====
/- What a step of the kernel leaves in `y`, over the extended reals: the plain formula of one batch item. -/
module

public import proofs.«01_k».proof.Proof.ValTile

@[expose] public section

set_option maxRecDepth 16384

noncomputable section

namespace Cert.KernelIdeal.Gen

open Idealize.ShloMosaic Idealize.ShloMosaic.TcCoe Idealize.ShloMosaic.Tactic
open Idealize.SL Idealize.SL.Sem

/-- The plain formula of one item: the decayed state against the output vector, the input's rank-one term and the skip. -/
def yV (x0 : Vec Ideal S1x48x64 .bf16) (x4 x5 : Vec Ideal S1x1x128 .bf16) (x6 : Vec Ideal S24x128 .f32)
    (x7 : Vec Ideal S1x48x64x128 .fp8e4m3) (x8 : Vec Ideal S1x48x64 .f32) (row : Fin 128 → EReal) : Vec Ideal S1x48x64 .bf16 :=
  fun j =>
    let h : Fin 48 := j 1
    let p : Fin 64 := j 2
    ((row ⟨64 + h.val, by omega⟩ * x8 (ix3 0 h p) * ∑ k : Fin 128, (x5 (ix3 0 0 k) : EReal) * x7 (ix4 0 h p k))
      + row ⟨h.val, by omega⟩ * x0 (ix3 0 h p) * ∑ k : Fin 128, (x4 (ix3 0 0 k) : EReal) * x5 (ix3 0 0 k)
      + x6 (ix2 (rowOf h) (laneOf h p)) * x0 (ix3 0 h p) : EReal)

/-- The output contraction of a row of the two-halves layout. -/
def ycG (x5 : Vec Ideal S1x1x128 .bf16) (x7 : Vec Ideal S1x48x64x128 .fp8e4m3) : Vec Ideal S24x128 .f32 := fun y =>
  (∑ k : Fin 128, (x5 (ix3 0 0 k) : EReal) * x7 (ix4 0 (headOf (y 0) (y 1)) (chanOf (y 1)) k) : EReal)

section Lhs
variable (c : Dev nD) (arg7 : Memref sig .tc .vmem S1x1x128 .bf16) (harg7 : arg7.IsWhole) (arg8 : Memref sig .tc .vmem S1x1x128 .bf16) (harg8 : arg8.IsWhole) (arg16 : Memref sig .tc .vmem S144x256 .bf16) (harg16 : arg16.IsWhole)
  (x4 x5 : Vec Ideal S1x1x128 .bf16) (xl : Vec Ideal S144x256 .bf16)

/-- The row below the identity: the output vector, freshly stored; -/
theorem lhs_lo (k : Fin 128) :
    mainRun.sl.r_11 (F := Ideal) c arg7 harg7 arg8 harg8 arg16 harg16 x4 x5 xl (ix2 128 ⟨k.val, by omega⟩) = x5 (ix3 0 0 k) := by
  unfold mainRun.sl.r_11
  rw [View.readAt_eq_ld]
  show View.read (Elt Ideal) arg16.view _ ((Rect.unit (s := S144x256) ![0, 0] S144x144.size inb_S144x256_S144x144_0_0).emb (ix2 128 ⟨k.val, by omega⟩)) = _
  rw [show (Rect.unit (s := S144x256) ![0, 0] S144x144.size inb_S144x256_S144x144_0_0).emb (ix2 128 ⟨k.val, by omega⟩)
      = (Rect.unit (s := S144x256) ![128, 0] S16x128.size inb_S144x256_S16x128_128_0).emb (ix2 0 k) from by
    funext a; apply Fin.ext; match a with | ⟨0, _⟩ => rfl | ⟨1, _⟩ => rfl]
  unfold mainRun.sl.H16_2
  rw [View.read_writes_cons_emb, crow_apply]
  unfold mainRun.sl.r_8
  rw [View.readAt_eq_ld, harg8.read_unread]
  pointwise [k0_pay37]

/-- and to its right what was there before. -/
theorem lhs_keep (y : S144x256.Idx) (h0 : (y 0).val = 128) (h1 : 128 ≤ (y 1).val) :
    View.read (Elt Ideal) arg16.view (arg16.view.writes (Elt Ideal) (harg16.unread xl) (mainRun.sl.H16_2 c arg7 harg7 arg8 harg8 x4 x5)) y = xl y := by
  unfold mainRun.sl.H16_2
  rw [View.read_writes_apply_of_forall_not_mem, harg16.read_unread]
  intro p hp hm
  simp only [List.mem_cons, List.not_mem_nil, or_false] at hp
  rcases hp with rfl | rfl
  · obtain ⟨j, hj, hj'⟩ := (LoadRect.mem_set _).mp hm 1
    have hj1 : j < 128 := hj
    have hj2 : (y 1).val = 0 + 1 * j := hj'
    omega
  · obtain ⟨j, hj, hj'⟩ := (LoadRect.mem_set _).mp hm 0
    have hj1 : j < 128 := hj
    have hj2 : (y 0).val = 0 + 1 * j := hj'
    omega

theorem lhs_hi (hz : ∀ k : Fin 256, 128 ≤ k.val → xl (ix2 128 k) = (0 : EReal)) (k : Fin 144) (hk : 128 ≤ k.val) :
    mainRun.sl.r_11 (F := Ideal) c arg7 harg7 arg8 harg8 arg16 harg16 x4 x5 xl (ix2 128 k) = (0 : EReal) := by
  unfold mainRun.sl.r_11
  refine Eq.trans (lhs_keep c arg7 harg7 arg8 harg8 arg16 harg16 x4 x5 xl _ rfl (by show 128 ≤ 0 + 1 * k.val; omega)) ?_
  refine Eq.trans ?_ (hz ⟨k.val, by omega⟩ hk)
  congr 1
  funext a; apply Fin.ext
  match a with
  | ⟨0, _⟩ => rfl
  | ⟨1, _⟩ => show 0 + 1 * k.val = k.val; omega
end Lhs

/-- A row's piece holds the row. -/
theorem row_mem (tt : ℕ) (inb : ∀ a, (![tt, 0] : Fin 2 → ℕ) a + S1x128.size a ≤ S24x128.size a) (y : S24x128.Idx) (h : (y 0).val = tt) :
    y ∈ (Rect.unit (s := S24x128) ![tt, 0] S1x128.size inb).set := by
  refine (LoadRect.mem_set _).mpr fun a => ?_
  match a with
  | ⟨0, _⟩ => exact ⟨0, Nat.one_pos, by show (y 0).val = tt + 1 * 0; omega⟩
  | ⟨1, _⟩ => exact ⟨(y 1).val, (y 1).isLt, by show (y 1).val = 0 + 1 * (y 1).val; omega⟩

theorem cov_head {S : Shape} {e : EltTy} (p : View.Piece (Elt Ideal) S e) (L : List (View.Piece (Elt Ideal) S e)) {y : S.Idx} (h : y ∈ p.1.set) :
    ∃ q ∈ p :: L, y ∈ q.1.set := ⟨p, List.mem_cons_self, h⟩

theorem cov_tail {S : Shape} {e : EltTy} (p : View.Piece (Elt Ideal) S e) (L : List (View.Piece (Elt Ideal) S e)) {y : S.Idx} (h : ∃ q ∈ L, y ∈ q.1.set) :
    ∃ q ∈ p :: L, y ∈ q.1.set := by
  obtain ⟨q, hq, hy⟩ := h
  exact ⟨q, List.mem_cons_of_mem _ hq, hy⟩

section Rows
variable (c : Dev nD) (i : grid0.Coords) (arg3 : Memref sig .tc .vmem S1x48x64 .bf16) (harg3 : arg3.IsWhole) (arg7 : Memref sig .tc .vmem S1x1x128 .bf16) (harg7 : arg7.IsWhole) (arg8 : Memref sig .tc .vmem S1x1x128 .bf16) (harg8 : arg8.IsWhole) (arg10 : Memref sig .tc .vmem S1x48x64x128 .fp8e4m3) (harg10 : arg10.IsWhole) (arg11 : Memref sig .tc .vmem S1x48x64 .f32) (harg11 : arg11.IsWhole) (arg15 : Memref sig .tc .vmem S256x128 .f32) (harg15 : arg15.IsWhole) (arg16 : Memref sig .tc .vmem S144x256 .bf16) (harg16 : arg16.IsWhole) (arg17 : Memref sig .tc .vmem S192x128 .f32) (harg17 : arg17.IsWhole) (k0_h3 : k0_cond3 i = 1#1)
  (x0 : Vec Ideal S1x48x64 .bf16) (x4 : Vec Ideal S1x1x128 .bf16) (x5 : Vec Ideal S1x1x128 .bf16) (x7 : Vec Ideal S1x48x64x128 .fp8e4m3) (x8 : Vec Ideal S1x48x64 .f32) (xd : Vec Ideal S256x128 .f32) (xl : Vec Ideal S144x256 .bf16) (xq : Vec Ideal S192x128 .f32)

/-- Rows `8 t` to `8 t + 7` of the table of quotients. -/
def qRows (r : ℕ) (inb : ∀ a, (![r, 0] : Fin 2 → ℕ) a + S8x128.size a ≤ S192x128.size a) : Vec Ideal S8x128 .f32 :=
  View.readAt (Elt Ideal) arg17.view (Rect.unit (s := S192x128) ![r, 0] S8x128.size inb).toLoadRect
    (arg17.view.writes (Elt Ideal) (harg17.unread xq) (mainRun.sl.H17_3 c i arg3 harg3 arg11 harg11 arg15 harg15 k0_h3 x0 x8 xd))

/-- The codes of head `h`. -/
def cRows (h : ℕ) (inb : ∀ a, (![0, h, 0, 0] : Fin 4 → ℕ) a + S1x1x64x128.size a ≤ S1x48x64x128.size a) : Vec Ideal S1x1x64x128 .fp8e4m3 :=
  View.readAt (Elt Ideal) arg10.view (Rect.unit (s := S1x48x64x128) ![0, h, 0, 0] S1x1x64x128.size inb).toLoadRect (harg10.unread x7)

theorem cRows_apply (h : ℕ) (inb) (hh : h < 48) (p : Fin 64) (k : Fin 128) :
    cRows arg10 harg10 x7 h inb (ix4 0 0 p k) = x7 (ix4 0 ⟨h, hh⟩ p k) := by
  unfold cRows
  rw [View.readAt_eq_ld, harg10.read_unread]
  pointwise

theorem tile_cRows (tt : Fin 24) (inb inb') (l k : Fin 128) :
    tileAt (cRows arg10 harg10 x7 tt.val inb) (cRows arg10 harg10 x7 (24 + tt.val) inb') l k = x7 (ix4 0 (headOf tt l) (chanOf l) k) := by
  unfold tileAt headOf chanOf
  split <;> rename_i h
  · rw [cRows_apply _ _ _ _ _ (by omega)]
  · rw [cRows_apply _ _ _ _ _ (by omega)]

variable (hz : ∀ k : Fin 256, 128 ≤ k.val → xl (ix2 128 k) = (0 : EReal))
include hz

theorem pieceA (tt : ℕ) (htt : tt < 24) (inb) (i1) (i2) (a' b') (q q') (w : Vec Ideal S1x128 .f32)
    (hw : w = ycA (mainRun.sl.r_11 (F := Ideal) c arg7 harg7 arg8 harg8 arg16 harg16 x4 x5 xl) (cRows arg10 harg10 x7 tt i1) (cRows arg10 harg10 x7 (24 + tt) i2) q a' b' q') :
    ∀ x : (Rect.unit (s := S24x128) ![tt, 0] S1x128.size inb).shape.Idx, w x = ycG x5 x7 ((Rect.unit (s := S24x128) ![tt, 0] S1x128.size inb).emb x) := by
  intro x
  obtain ⟨l, rfl⟩ : ∃ l : Fin 128, x = ix2 0 l := ⟨x 1, by
    funext a; match a with | ⟨0, _⟩ => exact Subsingleton.elim (α := Fin 1) _ _ | ⟨1, _⟩ => rfl⟩
  rw [hw, ycA_apply _ _ _ _ _ _ _ (lhs_hi c arg7 harg7 arg8 harg8 arg16 harg16 x4 x5 xl hz)]
  unfold ycG
  refine Finset.sum_congr rfl fun k _ => ?_
  rw [lhs_lo, tile_cRows arg10 harg10 x7 ⟨tt, htt⟩]
  have e1 : ((Rect.unit (s := S24x128) ![tt, 0] S1x128.size inb).emb (ix2 0 l)) 0 = (⟨tt, htt⟩ : Fin 24) := Fin.ext (by show tt + 1 * 0 = tt; omega)
  have e2 : ((Rect.unit (s := S24x128) ![tt, 0] S1x128.size inb).emb (ix2 0 l)) 1 = (l : Fin 128) := Fin.ext (by show 0 + 1 * l.val = l.val; omega)
  rw [e1, e2]

theorem pieceB (tt : ℕ) (htt : tt < 24) (inb) (i1) (i2) (a b) (q q') (w : Vec Ideal S1x128 .f32)
    (hw : w = ycB (mainRun.sl.r_11 (F := Ideal) c arg7 harg7 arg8 harg8 arg16 harg16 x4 x5 xl) a b q (cRows arg10 harg10 x7 tt i1) (cRows arg10 harg10 x7 (24 + tt) i2) q') :
    ∀ x : (Rect.unit (s := S24x128) ![tt, 0] S1x128.size inb).shape.Idx, w x = ycG x5 x7 ((Rect.unit (s := S24x128) ![tt, 0] S1x128.size inb).emb x) := by
  intro x
  obtain ⟨l, rfl⟩ : ∃ l : Fin 128, x = ix2 0 l := ⟨x 1, by
    funext a; match a with | ⟨0, _⟩ => exact Subsingleton.elim (α := Fin 1) _ _ | ⟨1, _⟩ => rfl⟩
  rw [hw, ycB_apply _ _ _ _ _ _ _ (lhs_hi c arg7 harg7 arg8 harg8 arg16 harg16 x4 x5 xl hz)]
  unfold ycG
  refine Finset.sum_congr rfl fun k _ => ?_
  rw [lhs_lo, tile_cRows arg10 harg10 x7 ⟨tt, htt⟩]
  have e1 : ((Rect.unit (s := S24x128) ![tt, 0] S1x128.size inb).emb (ix2 0 l)) 0 = (⟨tt, htt⟩ : Fin 24) := Fin.ext (by show tt + 1 * 0 = tt; omega)
  have e2 : ((Rect.unit (s := S24x128) ![tt, 0] S1x128.size inb).emb (ix2 0 l)) 1 = (l : Fin 128) := Fin.ext (by show 0 + 1 * l.val = l.val; omega)
  rw [e1, e2]

theorem H20_all : ∀ p ∈ mainRun.sl.H20_24 (F := Ideal) c i arg3 harg3 arg7 harg7 arg8 harg8 arg10 harg10 arg11 harg11 arg15 harg15 arg16 harg16 arg17 harg17 k0_h3 x0 x4 x5 x7 x8 xd xl xq,
    ∀ x : p.1.shape.Idx, p.2 x = ycG x5 x7 (p.1.emb x) := by
  unfold mainRun.sl.H20_24
  refine List.forall_mem_cons.2 ⟨pieceB c arg7 harg7 arg8 harg8 arg10 harg10 arg16 harg16 x4 x5 x7 xl hz 23 (by omega) inb_S24x128_S1x128_23_0 inb_S1x48x64x128_S1x1x64x128_0_23_0_0 inb_S1x48x64x128_S1x1x64x128_0_47_0_0 (cRows arg10 harg10 x7 22 inb_S1x48x64x128_S1x1x64x128_0_22_0_0) (cRows arg10 harg10 x7 46 inb_S1x48x64x128_S1x1x64x128_0_46_0_0) (qRows c i arg3 harg3 arg11 harg11 arg15 harg15 arg17 harg17 k0_h3 x0 x8 xd xq 176 inb_S192x128_S8x128_176_0) (qRows c i arg3 harg3 arg11 harg11 arg15 harg15 arg17 harg17 k0_h3 x0 x8 xd xq 184 inb_S192x128_S8x128_184_0) _ rfl, ?_⟩
  refine List.forall_mem_cons.2 ⟨pieceA c arg7 harg7 arg8 harg8 arg10 harg10 arg16 harg16 x4 x5 x7 xl hz 22 (by omega) inb_S24x128_S1x128_22_0 inb_S1x48x64x128_S1x1x64x128_0_22_0_0 inb_S1x48x64x128_S1x1x64x128_0_46_0_0 (cRows arg10 harg10 x7 23 inb_S1x48x64x128_S1x1x64x128_0_23_0_0) (cRows arg10 harg10 x7 47 inb_S1x48x64x128_S1x1x64x128_0_47_0_0) (qRows c i arg3 harg3 arg11 harg11 arg15 harg15 arg17 harg17 k0_h3 x0 x8 xd xq 176 inb_S192x128_S8x128_176_0) (qRows c i arg3 harg3 arg11 harg11 arg15 harg15 arg17 harg17 k0_h3 x0 x8 xd xq 184 inb_S192x128_S8x128_184_0) _ rfl, ?_⟩
  refine List.forall_mem_cons.2 ⟨pieceB c arg7 harg7 arg8 harg8 arg10 harg10 arg16 harg16 x4 x5 x7 xl hz 21 (by omega) inb_S24x128_S1x128_21_0 inb_S1x48x64x128_S1x1x64x128_0_21_0_0 inb_S1x48x64x128_S1x1x64x128_0_45_0_0 (cRows arg10 harg10 x7 20 inb_S1x48x64x128_S1x1x64x128_0_20_0_0) (cRows arg10 harg10 x7 44 inb_S1x48x64x128_S1x1x64x128_0_44_0_0) (qRows c i arg3 harg3 arg11 harg11 arg15 harg15 arg17 harg17 k0_h3 x0 x8 xd xq 160 inb_S192x128_S8x128_160_0) (qRows c i arg3 harg3 arg11 harg11 arg15 harg15 arg17 harg17 k0_h3 x0 x8 xd xq 168 inb_S192x128_S8x128_168_0) _ rfl, ?_⟩
  refine List.forall_mem_cons.2 ⟨pieceA c arg7 harg7 arg8 harg8 arg10 harg10 arg16 harg16 x4 x5 x7 xl hz 20 (by omega) inb_S24x128_S1x128_20_0 inb_S1x48x64x128_S1x1x64x128_0_20_0_0 inb_S1x48x64x128_S1x1x64x128_0_44_0_0 (cRows arg10 harg10 x7 21 inb_S1x48x64x128_S1x1x64x128_0_21_0_0) (cRows arg10 harg10 x7 45 inb_S1x48x64x128_S1x1x64x128_0_45_0_0) (qRows c i arg3 harg3 arg11 harg11 arg15 harg15 arg17 harg17 k0_h3 x0 x8 xd xq 160 inb_S192x128_S8x128_160_0) (qRows c i arg3 harg3 arg11 harg11 arg15 harg15 arg17 harg17 k0_h3 x0 x8 xd xq 168 inb_S192x128_S8x128_168_0) _ rfl, ?_⟩
  refine List.forall_mem_cons.2 ⟨pieceB c arg7 harg7 arg8 harg8 arg10 harg10 arg16 harg16 x4 x5 x7 xl hz 19 (by omega) inb_S24x128_S1x128_19_0 inb_S1x48x64x128_S1x1x64x128_0_19_0_0 inb_S1x48x64x128_S1x1x64x128_0_43_0_0 (cRows arg10 harg10 x7 18 inb_S1x48x64x128_S1x1x64x128_0_18_0_0) (cRows arg10 harg10 x7 42 inb_S1x48x64x128_S1x1x64x128_0_42_0_0) (qRows c i arg3 harg3 arg11 harg11 arg15 harg15 arg17 harg17 k0_h3 x0 x8 xd xq 144 inb_S192x128_S8x128_144_0) (qRows c i arg3 harg3 arg11 harg11 arg15 harg15 arg17 harg17 k0_h3 x0 x8 xd xq 152 inb_S192x128_S8x128_152_0) _ rfl, ?_⟩
  refine List.forall_mem_cons.2 ⟨pieceA c arg7 harg7 arg8 harg8 arg10 harg10 arg16 harg16 x4 x5 x7 xl hz 18 (by omega) inb_S24x128_S1x128_18_0 inb_S1x48x64x128_S1x1x64x128_0_18_0_0 inb_S1x48x64x128_S1x1x64x128_0_42_0_0 (cRows arg10 harg10 x7 19 inb_S1x48x64x128_S1x1x64x128_0_19_0_0) (cRows arg10 harg10 x7 43 inb_S1x48x64x128_S1x1x64x128_0_43_0_0) (qRows c i arg3 harg3 arg11 harg11 arg15 harg15 arg17 harg17 k0_h3 x0 x8 xd xq 144 inb_S192x128_S8x128_144_0) (qRows c i arg3 harg3 arg11 harg11 arg15 harg15 arg17 harg17 k0_h3 x0 x8 xd xq 152 inb_S192x128_S8x128_152_0) _ rfl, ?_⟩
  refine List.forall_mem_cons.2 ⟨pieceB c arg7 harg7 arg8 harg8 arg10 harg10 arg16 harg16 x4 x5 x7 xl hz 17 (by omega) inb_S24x128_S1x128_17_0 inb_S1x48x64x128_S1x1x64x128_0_17_0_0 inb_S1x48x64x128_S1x1x64x128_0_41_0_0 (cRows arg10 harg10 x7 16 inb_S1x48x64x128_S1x1x64x128_0_16_0_0) (cRows arg10 harg10 x7 40 inb_S1x48x64x128_S1x1x64x128_0_40_0_0) (qRows c i arg3 harg3 arg11 harg11 arg15 harg15 arg17 harg17 k0_h3 x0 x8 xd xq 128 inb_S192x128_S8x128_128_0) (qRows c i arg3 harg3 arg11 harg11 arg15 harg15 arg17 harg17 k0_h3 x0 x8 xd xq 136 inb_S192x128_S8x128_136_0) _ rfl, ?_⟩
  refine List.forall_mem_cons.2 ⟨pieceA c arg7 harg7 arg8 harg8 arg10 harg10 arg16 harg16 x4 x5 x7 xl hz 16 (by omega) inb_S24x128_S1x128_16_0 inb_S1x48x64x128_S1x1x64x128_0_16_0_0 inb_S1x48x64x128_S1x1x64x128_0_40_0_0 (cRows arg10 harg10 x7 17 inb_S1x48x64x128_S1x1x64x128_0_17_0_0) (cRows arg10 harg10 x7 41 inb_S1x48x64x128_S1x1x64x128_0_41_0_0) (qRows c i arg3 harg3 arg11 harg11 arg15 harg15 arg17 harg17 k0_h3 x0 x8 xd xq 128 inb_S192x128_S8x128_128_0) (qRows c i arg3 harg3 arg11 harg11 arg15 harg15 arg17 harg17 k0_h3 x0 x8 xd xq 136 inb_S192x128_S8x128_136_0) _ rfl, ?_⟩
  refine List.forall_mem_cons.2 ⟨pieceB c arg7 harg7 arg8 harg8 arg10 harg10 arg16 harg16 x4 x5 x7 xl hz 15 (by omega) inb_S24x128_S1x128_15_0 inb_S1x48x64x128_S1x1x64x128_0_15_0_0 inb_S1x48x64x128_S1x1x64x128_0_39_0_0 (cRows arg10 harg10 x7 14 inb_S1x48x64x128_S1x1x64x128_0_14_0_0) (cRows arg10 harg10 x7 38 inb_S1x48x64x128_S1x1x64x128_0_38_0_0) (qRows c i arg3 harg3 arg11 harg11 arg15 harg15 arg17 harg17 k0_h3 x0 x8 xd xq 112 inb_S192x128_S8x128_112_0) (qRows c i arg3 harg3 arg11 harg11 arg15 harg15 arg17 harg17 k0_h3 x0 x8 xd xq 120 inb_S192x128_S8x128_120_0) _ rfl, ?_⟩
  refine List.forall_mem_cons.2 ⟨pieceA c arg7 harg7 arg8 harg8 arg10 harg10 arg16 harg16 x4 x5 x7 xl hz 14 (by omega) inb_S24x128_S1x128_14_0 inb_S1x48x64x128_S1x1x64x128_0_14_0_0 inb_S1x48x64x128_S1x1x64x128_0_38_0_0 (cRows arg10 harg10 x7 15 inb_S1x48x64x128_S1x1x64x128_0_15_0_0) (cRows arg10 harg10 x7 39 inb_S1x48x64x128_S1x1x64x128_0_39_0_0) (qRows c i arg3 harg3 arg11 harg11 arg15 harg15 arg17 harg17 k0_h3 x0 x8 xd xq 112 inb_S192x128_S8x128_112_0) (qRows c i arg3 harg3 arg11 harg11 arg15 harg15 arg17 harg17 k0_h3 x0 x8 xd xq 120 inb_S192x128_S8x128_120_0) _ rfl, ?_⟩
  refine List.forall_mem_cons.2 ⟨pieceB c arg7 harg7 arg8 harg8 arg10 harg10 arg16 harg16 x4 x5 x7 xl hz 13 (by omega) inb_S24x128_S1x128_13_0 inb_S1x48x64x128_S1x1x64x128_0_13_0_0 inb_S1x48x64x128_S1x1x64x128_0_37_0_0 (cRows arg10 harg10 x7 12 inb_S1x48x64x128_S1x1x64x128_0_12_0_0) (cRows arg10 harg10 x7 36 inb_S1x48x64x128_S1x1x64x128_0_36_0_0) (qRows c i arg3 harg3 arg11 harg11 arg15 harg15 arg17 harg17 k0_h3 x0 x8 xd xq 96 inb_S192x128_S8x128_96_0) (qRows c i arg3 harg3 arg11 harg11 arg15 harg15 arg17 harg17 k0_h3 x0 x8 xd xq 104 inb_S192x128_S8x128_104_0) _ rfl, ?_⟩
  refine List.forall_mem_cons.2 ⟨pieceA c arg7 harg7 arg8 harg8 arg10 harg10 arg16 harg16 x4 x5 x7 xl hz 12 (by omega) inb_S24x128_S1x128_12_0 inb_S1x48x64x128_S1x1x64x128_0_12_0_0 inb_S1x48x64x128_S1x1x64x128_0_36_0_0 (cRows arg10 harg10 x7 13 inb_S1x48x64x128_S1x1x64x128_0_13_0_0) (cRows arg10 harg10 x7 37 inb_S1x48x64x128_S1x1x64x128_0_37_0_0) (qRows c i arg3 harg3 arg11 harg11 arg15 harg15 arg17 harg17 k0_h3 x0 x8 xd xq 96 inb_S192x128_S8x128_96_0) (qRows c i arg3 harg3 arg11 harg11 arg15 harg15 arg17 harg17 k0_h3 x0 x8 xd xq 104 inb_S192x128_S8x128_104_0) _ rfl, ?_⟩
  refine List.forall_mem_cons.2 ⟨pieceB c arg7 harg7 arg8 harg8 arg10 harg10 arg16 harg16 x4 x5 x7 xl hz 11 (by omega) inb_S24x128_S1x128_11_0 inb_S1x48x64x128_S1x1x64x128_0_11_0_0 inb_S1x48x64x128_S1x1x64x128_0_35_0_0 (cRows arg10 harg10 x7 10 inb_S1x48x64x128_S1x1x64x128_0_10_0_0) (cRows arg10 harg10 x7 34 inb_S1x48x64x128_S1x1x64x128_0_34_0_0) (qRows c i arg3 harg3 arg11 harg11 arg15 harg15 arg17 harg17 k0_h3 x0 x8 xd xq 80 inb_S192x128_S8x128_80_0) (qRows c i arg3 harg3 arg11 harg11 arg15 harg15 arg17 harg17 k0_h3 x0 x8 xd xq 88 inb_S192x128_S8x128_88_0) _ rfl, ?_⟩
  refine List.forall_mem_cons.2 ⟨pieceA c arg7 harg7 arg8 harg8 arg10 harg10 arg16 harg16 x4 x5 x7 xl hz 10 (by omega) inb_S24x128_S1x128_10_0 inb_S1x48x64x128_S1x1x64x128_0_10_0_0 inb_S1x48x64x128_S1x1x64x128_0_34_0_0 (cRows arg10 harg10 x7 11 inb_S1x48x64x128_S1x1x64x128_0_11_0_0) (cRows arg10 harg10 x7 35 inb_S1x48x64x128_S1x1x64x128_0_35_0_0) (qRows c i arg3 harg3 arg11 harg11 arg15 harg15 arg17 harg17 k0_h3 x0 x8 xd xq 80 inb_S192x128_S8x128_80_0) (qRows c i arg3 harg3 arg11 harg11 arg15 harg15 arg17 harg17 k0_h3 x0 x8 xd xq 88 inb_S192x128_S8x128_88_0) _ rfl, ?_⟩
  refine List.forall_mem_cons.2 ⟨pieceB c arg7 harg7 arg8 harg8 arg10 harg10 arg16 harg16 x4 x5 x7 xl hz 9 (by omega) inb_S24x128_S1x128_9_0 inb_S1x48x64x128_S1x1x64x128_0_9_0_0 inb_S1x48x64x128_S1x1x64x128_0_33_0_0 (cRows arg10 harg10 x7 8 inb_S1x48x64x128_S1x1x64x128_0_8_0_0) (cRows arg10 harg10 x7 32 inb_S1x48x64x128_S1x1x64x128_0_32_0_0) (qRows c i arg3 harg3 arg11 harg11 arg15 harg15 arg17 harg17 k0_h3 x0 x8 xd xq 64 inb_S192x128_S8x128_64_0) (qRows c i arg3 harg3 arg11 harg11 arg15 harg15 arg17 harg17 k0_h3 x0 x8 xd xq 72 inb_S192x128_S8x128_72_0) _ rfl, ?_⟩
  refine List.forall_mem_cons.2 ⟨pieceA c arg7 harg7 arg8 harg8 arg10 harg10 arg16 harg16 x4 x5 x7 xl hz 8 (by omega) inb_S24x128_S1x128_8_0 inb_S1x48x64x128_S1x1x64x128_0_8_0_0 inb_S1x48x64x128_S1x1x64x128_0_32_0_0 (cRows arg10 harg10 x7 9 inb_S1x48x64x128_S1x1x64x128_0_9_0_0) (cRows arg10 harg10 x7 33 inb_S1x48x64x128_S1x1x64x128_0_33_0_0) (qRows c i arg3 harg3 arg11 harg11 arg15 harg15 arg17 harg17 k0_h3 x0 x8 xd xq 64 inb_S192x128_S8x128_64_0) (qRows c i arg3 harg3 arg11 harg11 arg15 harg15 arg17 harg17 k0_h3 x0 x8 xd xq 72 inb_S192x128_S8x128_72_0) _ rfl, ?_⟩
  refine List.forall_mem_cons.2 ⟨pieceB c arg7 harg7 arg8 harg8 arg10 harg10 arg16 harg16 x4 x5 x7 xl hz 7 (by omega) inb_S24x128_S1x128_7_0 inb_S1x48x64x128_S1x1x64x128_0_7_0_0 inb_S1x48x64x128_S1x1x64x128_0_31_0_0 (cRows arg10 harg10 x7 6 inb_S1x48x64x128_S1x1x64x128_0_6_0_0) (cRows arg10 harg10 x7 30 inb_S1x48x64x128_S1x1x64x128_0_30_0_0) (qRows c i arg3 harg3 arg11 harg11 arg15 harg15 arg17 harg17 k0_h3 x0 x8 xd xq 48 inb_S192x128_S8x128_48_0) (qRows c i arg3 harg3 arg11 harg11 arg15 harg15 arg17 harg17 k0_h3 x0 x8 xd xq 56 inb_S192x128_S8x128_56_0) _ rfl, ?_⟩
  refine List.forall_mem_cons.2 ⟨pieceA c arg7 harg7 arg8 harg8 arg10 harg10 arg16 harg16 x4 x5 x7 xl hz 6 (by omega) inb_S24x128_S1x128_6_0 inb_S1x48x64x128_S1x1x64x128_0_6_0_0 inb_S1x48x64x128_S1x1x64x128_0_30_0_0 (cRows arg10 harg10 x7 7 inb_S1x48x64x128_S1x1x64x128_0_7_0_0) (cRows arg10 harg10 x7 31 inb_S1x48x64x128_S1x1x64x128_0_31_0_0) (qRows c i arg3 harg3 arg11 harg11 arg15 harg15 arg17 harg17 k0_h3 x0 x8 xd xq 48 inb_S192x128_S8x128_48_0) (qRows c i arg3 harg3 arg11 harg11 arg15 harg15 arg17 harg17 k0_h3 x0 x8 xd xq 56 inb_S192x128_S8x128_56_0) _ rfl, ?_⟩
  refine List.forall_mem_cons.2 ⟨pieceB c arg7 harg7 arg8 harg8 arg10 harg10 arg16 harg16 x4 x5 x7 xl hz 5 (by omega) inb_S24x128_S1x128_5_0 inb_S1x48x64x128_S1x1x64x128_0_5_0_0 inb_S1x48x64x128_S1x1x64x128_0_29_0_0 (cRows arg10 harg10 x7 4 inb_S1x48x64x128_S1x1x64x128_0_4_0_0) (cRows arg10 harg10 x7 28 inb_S1x48x64x128_S1x1x64x128_0_28_0_0) (qRows c i arg3 harg3 arg11 harg11 arg15 harg15 arg17 harg17 k0_h3 x0 x8 xd xq 32 inb_S192x128_S8x128_32_0) (qRows c i arg3 harg3 arg11 harg11 arg15 harg15 arg17 harg17 k0_h3 x0 x8 xd xq 40 inb_S192x128_S8x128_40_0) _ rfl, ?_⟩
  refine List.forall_mem_cons.2 ⟨pieceA c arg7 harg7 arg8 harg8 arg10 harg10 arg16 harg16 x4 x5 x7 xl hz 4 (by omega) inb_S24x128_S1x128_4_0 inb_S1x48x64x128_S1x1x64x128_0_4_0_0 inb_S1x48x64x128_S1x1x64x128_0_28_0_0 (cRows arg10 harg10 x7 5 inb_S1x48x64x128_S1x1x64x128_0_5_0_0) (cRows arg10 harg10 x7 29 inb_S1x48x64x128_S1x1x64x128_0_29_0_0) (qRows c i arg3 harg3 arg11 harg11 arg15 harg15 arg17 harg17 k0_h3 x0 x8 xd xq 32 inb_S192x128_S8x128_32_0) (qRows c i arg3 harg3 arg11 harg11 arg15 harg15 arg17 harg17 k0_h3 x0 x8 xd xq 40 inb_S192x128_S8x128_40_0) _ rfl, ?_⟩
  refine List.forall_mem_cons.2 ⟨pieceB c arg7 harg7 arg8 harg8 arg10 harg10 arg16 harg16 x4 x5 x7 xl hz 3 (by omega) inb_S24x128_S1x128_3_0 inb_S1x48x64x128_S1x1x64x128_0_3_0_0 inb_S1x48x64x128_S1x1x64x128_0_27_0_0 (cRows arg10 harg10 x7 2 inb_S1x48x64x128_S1x1x64x128_0_2_0_0) (cRows arg10 harg10 x7 26 inb_S1x48x64x128_S1x1x64x128_0_26_0_0) (qRows c i arg3 harg3 arg11 harg11 arg15 harg15 arg17 harg17 k0_h3 x0 x8 xd xq 16 inb_S192x128_S8x128_16_0) (qRows c i arg3 harg3 arg11 harg11 arg15 harg15 arg17 harg17 k0_h3 x0 x8 xd xq 24 inb_S192x128_S8x128_24_0) _ rfl, ?_⟩
  refine List.forall_mem_cons.2 ⟨pieceA c arg7 harg7 arg8 harg8 arg10 harg10 arg16 harg16 x4 x5 x7 xl hz 2 (by omega) inb_S24x128_S1x128_2_0 inb_S1x48x64x128_S1x1x64x128_0_2_0_0 inb_S1x48x64x128_S1x1x64x128_0_26_0_0 (cRows arg10 harg10 x7 3 inb_S1x48x64x128_S1x1x64x128_0_3_0_0) (cRows arg10 harg10 x7 27 inb_S1x48x64x128_S1x1x64x128_0_27_0_0) (qRows c i arg3 harg3 arg11 harg11 arg15 harg15 arg17 harg17 k0_h3 x0 x8 xd xq 16 inb_S192x128_S8x128_16_0) (qRows c i arg3 harg3 arg11 harg11 arg15 harg15 arg17 harg17 k0_h3 x0 x8 xd xq 24 inb_S192x128_S8x128_24_0) _ rfl, ?_⟩
  refine List.forall_mem_cons.2 ⟨pieceB c arg7 harg7 arg8 harg8 arg10 harg10 arg16 harg16 x4 x5 x7 xl hz 1 (by omega) inb_S24x128_S1x128_1_0 inb_S1x48x64x128_S1x1x64x128_0_1_0_0 inb_S1x48x64x128_S1x1x64x128_0_25_0_0 (cRows arg10 harg10 x7 0 inb_S1x48x64x128_S1x1x64x128_0_0_0_0) (cRows arg10 harg10 x7 24 inb_S1x48x64x128_S1x1x64x128_0_24_0_0) (qRows c i arg3 harg3 arg11 harg11 arg15 harg15 arg17 harg17 k0_h3 x0 x8 xd xq 0 inb_S192x128_S8x128_0_0) (qRows c i arg3 harg3 arg11 harg11 arg15 harg15 arg17 harg17 k0_h3 x0 x8 xd xq 8 inb_S192x128_S8x128_8_0) _ rfl, ?_⟩
  refine List.forall_mem_cons.2 ⟨pieceA c arg7 harg7 arg8 harg8 arg10 harg10 arg16 harg16 x4 x5 x7 xl hz 0 (by omega) inb_S24x128_S1x128_0_0 inb_S1x48x64x128_S1x1x64x128_0_0_0_0 inb_S1x48x64x128_S1x1x64x128_0_24_0_0 (cRows arg10 harg10 x7 1 inb_S1x48x64x128_S1x1x64x128_0_1_0_0) (cRows arg10 harg10 x7 25 inb_S1x48x64x128_S1x1x64x128_0_25_0_0) (qRows c i arg3 harg3 arg11 harg11 arg15 harg15 arg17 harg17 k0_h3 x0 x8 xd xq 0 inb_S192x128_S8x128_0_0) (qRows c i arg3 harg3 arg11 harg11 arg15 harg15 arg17 harg17 k0_h3 x0 x8 xd xq 8 inb_S192x128_S8x128_8_0) _ rfl, ?_⟩
  exact fun p hp => absurd hp List.not_mem_nil

/-- The table of output contractions, complete: every row is stored. -/
theorem yc_eq (arg20 : Memref sig .tc .vmem S24x128 .f32) :
    mainRun.sl.v1817 (F := Ideal) c i arg3 harg3 arg7 harg7 arg8 harg8 arg10 harg10 arg11 harg11 arg15 harg15 arg16 harg16 arg17 harg17 arg20 k0_h3 x0 x4 x5 x7 x8 xd xl xq = ycG x5 x7 := by
  unfold mainRun.sl.v1817
  rw [View.readCov_eq_canon']
  funext y
  rw [show (Rect.unit (s := S24x128) ![0, 0] S24x128.size inb_S24x128_S24x128_0_0).toLoadRect.idx y = y from by
    funext a; apply Fin.ext; match a with | ⟨0, _⟩ => show 0 + 1 * (y 0).val = (y 0).val; omega | ⟨1, _⟩ => show 0 + 1 * (y 1).val = (y 1).val; omega]
  refine View.canon_apply_of_pieces (Val := Elt Ideal) (S := S24x128) (e := .f32) (ycG x5 x7) _ (H20_all c i arg3 harg3 arg7 harg7 arg8 harg8 arg10 harg10 arg11 harg11 arg15 harg15 arg16 harg16 arg17 harg17 k0_h3 x0 x4 x5 x7 x8 xd xl xq hz) y ?_
  have hy : (y 0).val < 24 := (y 0).isLt
  unfold mainRun.sl.H20_24
  by_cases h23 : (y 0).val = 23
  · exact cov_head _ _ (row_mem 23 inb_S24x128_S1x128_23_0 y h23)
  refine cov_tail _ _ ?_
  by_cases h22 : (y 0).val = 22
  · exact cov_head _ _ (row_mem 22 inb_S24x128_S1x128_22_0 y h22)
  refine cov_tail _ _ ?_
  by_cases h21 : (y 0).val = 21
  · exact cov_head _ _ (row_mem 21 inb_S24x128_S1x128_21_0 y h21)
  refine cov_tail _ _ ?_
  by_cases h20 : (y 0).val = 20
  · exact cov_head _ _ (row_mem 20 inb_S24x128_S1x128_20_0 y h20)
  refine cov_tail _ _ ?_
  by_cases h19 : (y 0).val = 19
  · exact cov_head _ _ (row_mem 19 inb_S24x128_S1x128_19_0 y h19)
  refine cov_tail _ _ ?_
  by_cases h18 : (y 0).val = 18
  · exact cov_head _ _ (row_mem 18 inb_S24x128_S1x128_18_0 y h18)
  refine cov_tail _ _ ?_
  by_cases h17 : (y 0).val = 17
  · exact cov_head _ _ (row_mem 17 inb_S24x128_S1x128_17_0 y h17)
  refine cov_tail _ _ ?_
  by_cases h16 : (y 0).val = 16
  · exact cov_head _ _ (row_mem 16 inb_S24x128_S1x128_16_0 y h16)
  refine cov_tail _ _ ?_
  by_cases h15 : (y 0).val = 15
  · exact cov_head _ _ (row_mem 15 inb_S24x128_S1x128_15_0 y h15)
  refine cov_tail _ _ ?_
  by_cases h14 : (y 0).val = 14
  · exact cov_head _ _ (row_mem 14 inb_S24x128_S1x128_14_0 y h14)
  refine cov_tail _ _ ?_
  by_cases h13 : (y 0).val = 13
  · exact cov_head _ _ (row_mem 13 inb_S24x128_S1x128_13_0 y h13)
  refine cov_tail _ _ ?_
  by_cases h12 : (y 0).val = 12
  · exact cov_head _ _ (row_mem 12 inb_S24x128_S1x128_12_0 y h12)
  refine cov_tail _ _ ?_
  by_cases h11 : (y 0).val = 11
  · exact cov_head _ _ (row_mem 11 inb_S24x128_S1x128_11_0 y h11)
  refine cov_tail _ _ ?_
  by_cases h10 : (y 0).val = 10
  · exact cov_head _ _ (row_mem 10 inb_S24x128_S1x128_10_0 y h10)
  refine cov_tail _ _ ?_
  by_cases h9 : (y 0).val = 9
  · exact cov_head _ _ (row_mem 9 inb_S24x128_S1x128_9_0 y h9)
  refine cov_tail _ _ ?_
  by_cases h8 : (y 0).val = 8
  · exact cov_head _ _ (row_mem 8 inb_S24x128_S1x128_8_0 y h8)
  refine cov_tail _ _ ?_
  by_cases h7 : (y 0).val = 7
  · exact cov_head _ _ (row_mem 7 inb_S24x128_S1x128_7_0 y h7)
  refine cov_tail _ _ ?_
  by_cases h6 : (y 0).val = 6
  · exact cov_head _ _ (row_mem 6 inb_S24x128_S1x128_6_0 y h6)
  refine cov_tail _ _ ?_
  by_cases h5 : (y 0).val = 5
  · exact cov_head _ _ (row_mem 5 inb_S24x128_S1x128_5_0 y h5)
  refine cov_tail _ _ ?_
  by_cases h4 : (y 0).val = 4
  · exact cov_head _ _ (row_mem 4 inb_S24x128_S1x128_4_0 y h4)
  refine cov_tail _ _ ?_
  by_cases h3 : (y 0).val = 3
  · exact cov_head _ _ (row_mem 3 inb_S24x128_S1x128_3_0 y h3)
  refine cov_tail _ _ ?_
  by_cases h2 : (y 0).val = 2
  · exact cov_head _ _ (row_mem 2 inb_S24x128_S1x128_2_0 y h2)
  refine cov_tail _ _ ?_
  by_cases h1 : (y 0).val = 1
  · exact cov_head _ _ (row_mem 1 inb_S24x128_S1x128_1_0 y h1)
  refine cov_tail _ _ ?_
  by_cases h0 : (y 0).val = 0
  · exact cov_head _ _ (row_mem 0 inb_S24x128_S1x128_0_0 y h0)
  refine cov_tail _ _ ?_
  omega

end Rows

section Out
variable (c : Dev nD) (i : grid0.Coords) (arg3 : Memref sig .tc .vmem S1x48x64 .bf16) (harg3 : arg3.IsWhole) (arg4 : Memref sig .tc .vmem S256x48 .bf16) (harg4 : arg4.IsWhole) (arg5 : Memref sig .tc .vmem S1x48 .f32) (harg5 : arg5.IsWhole) (arg6 : Memref sig .tc .vmem S1x48 .f32) (harg6 : arg6.IsWhole) (arg7 : Memref sig .tc .vmem S1x1x128 .bf16) (harg7 : arg7.IsWhole) (arg8 : Memref sig .tc .vmem S1x1x128 .bf16) (harg8 : arg8.IsWhole) (arg9 : Memref sig .tc .vmem S24x128 .f32) (harg9 : arg9.IsWhole) (arg10 : Memref sig .tc .vmem S1x48x64x128 .fp8e4m3) (harg10 : arg10.IsWhole) (arg11 : Memref sig .tc .vmem S1x48x64 .f32) (harg11 : arg11.IsWhole) (arg12 : Memref sig .tc .vmem S1x48x64 .bf16) (harg12 : arg12.IsWhole) (arg13 : Memref sig .tc .vmem S1x48x64x128 .fp8e4m3) (harg13 : arg13.IsWhole) (arg14 : Memref sig .tc .vmem S1x48x64 .f32) (harg14 : arg14.IsWhole) (arg15 : Memref sig .tc .vmem S256x128 .f32) (harg15 : arg15.IsWhole) (arg16 : Memref sig .tc .vmem S144x256 .bf16) (harg16 : arg16.IsWhole) (arg17 : Memref sig .tc .vmem S192x128 .f32) (harg17 : arg17.IsWhole) (arg18 : Memref sig .tc .vmem S24x128x128 .f32) (harg18 : arg18.IsWhole) (arg19 : Memref sig .tc .vmem S192x128 .f32) (harg19 : arg19.IsWhole) (arg20 : Memref sig .tc .vmem S24x128 .f32) (harg20 : arg20.IsWhole) (arg21 : Memref sig .tc .vmem S24x128 .f32) (harg21 : arg21.IsWhole) (k0_h3 : k0_cond3 i = 1#1)
    (x0 : Vec Ideal S1x48x64 .bf16) (x4 : Vec Ideal S1x1x128 .bf16) (x5 : Vec Ideal S1x1x128 .bf16) (x6 : Vec Ideal S24x128 .f32) (x7 : Vec Ideal S1x48x64x128 .fp8e4m3) (x8 : Vec Ideal S1x48x64 .f32) (xd : Vec Ideal S256x128 .f32) (xl : Vec Ideal S144x256 .bf16) (xq : Vec Ideal S192x128 .f32)

omit k0_h3 in
theorem cond3_lt (h : k0_cond3 i = 1#1) : (i 0).val < 256 := by
  have key : ∀ n : Fin 323, Scalar.cmpi .ne (Scalar.extui (Scalar.cmpi .slt (BitVec.ofNat 32 n.val) 256#32) : BitVec 32) 0#32 = 1#1 → n.val < 256 := by decide +kernel
  exact key (i 0) h

/-- A load of the item's row of the table of coefficients. -/
theorem row_apply (l : Fin 128) :
    View.readAt (Elt Ideal) arg15.view (Rect.unit (s := S256x128) (k0_off2 i) S1x128.size (k0_off2_inb i k0_h3)).toLoadRect (harg15.unread xd) (ix2 0 l)
      = xd (ix2 ⟨(i 0).val, cond3_lt i k0_h3⟩ l) := by
  rw [View.readAt_eq_ld, harg15.read_unread]
  show xd _ = xd _
  congr 1
  funext a; apply Fin.ext
  match a with
  | ⟨0, _⟩ => show k0_off2 i 0 + 1 * 0 = (i 0).val; rw [k0_off2_eq]; rfl
  | ⟨1, _⟩ => show k0_off2 i 1 + 1 * l.val = l.val; rw [k0_off2_eq]; show 0 + 1 * l.val = l.val; omega

/-- WHAT A STEP LEAVES IN `y`: the plain formula, the decay row read off the table of decays at this item. -/
theorem mainY (hz : ∀ k : Fin 256, 128 ≤ k.val → xl (ix2 128 k) = (0 : EReal)) (f) :
    arg12.view.read (Elt Ideal) (arg12.view.writes (Elt Ideal) f (mainRun (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h3 x0 x4 x5 x6 x7 x8 xd xl xq).1)
      = yV x0 x4 x5 x6 x7 x8 (fun l => xd (ix2 ⟨(i 0).val, cond3_lt i k0_h3⟩ l)) := by
  funext j
  obtain ⟨h, p, rfl⟩ : ∃ (h : Fin 48) (p : Fin 64), j = ix3 0 h p := ⟨j 1, j 2, by
    funext a; match a with | ⟨0, _⟩ => exact Subsingleton.elim (α := Fin 1) _ _ | ⟨1, _⟩ => rfl | ⟨2, _⟩ => rfl⟩
  have e : (ix3 0 h p : S1x48x64.Idx) = (Rect.unit (s := S1x48x64) ![0, 0, 0] S1x48x64.size inb_S1x48x64_S1x48x64_0_0_0).emb (ix3 0 h p) := by
    funext a; apply Fin.ext
    match a with
    | ⟨0, _⟩ => rfl
    | ⟨1, _⟩ => show h.val = 0 + 1 * h.val; omega
    | ⟨2, _⟩ => show p.val = 0 + 1 * p.val; omega
  unfold mainRun
  dsimp only
  conv_lhs => rw [e]
  rw [View.read_writes_cons_emb, y_apply, yc_eq _ _ _ _ _ _ _ _ _ _ _ _ _ _ _ _ _ _ _ _ _ _ _ _ _ _ _ hz]
  unfold mainRun.sl.r mainRun.sl.r_1 mainRun.sl.r_2 mainRun.sl.r_3 mainRun.sl.r_9
  have key : ycG x5 x7 (ix2 (rowOf h) (laneOf h p)) = (∑ k : Fin 128, (x5 (ix3 0 0 k) : EReal) * x7 (ix4 0 h p k) : EReal) := by
    show (∑ k : Fin 128, (x5 (ix3 0 0 k) : EReal) * x7 (ix4 0 (headOf (rowOf h) (laneOf h p)) (chanOf (laneOf h p)) k) : EReal) = _
    rw [headOf_laneOf, chanOf_laneOf]
  rw [s_apply, d_apply, x_apply, bc_apply, key, row_apply, row_apply]
  simp only [headOf_laneOf, chanOf_laneOf]
  rw [View.readAt_eq_ld arg11.view, View.readAt_eq_ld arg3.view, View.readAt_eq_ld arg7.view, View.readAt_eq_ld arg8.view, View.readAt_eq_ld arg9.view,
    harg11.read_unread, harg3.read_unread, harg7.read_unread, harg8.read_unread, harg9.read_unread]
  pointwise [k0_pay23]
  · rfl
  all_goals exact k0_h3

/-- and in the left matrix: the zeros to the right of the output vector stay. -/
theorem mainLS (hz : ∀ k : Fin 256, 128 ≤ k.val → xl (ix2 128 k) = (0 : EReal)) (k : Fin 256) (hk : 128 ≤ k.val) :
    arg16.view.read (Elt Ideal) (arg16.view.writes (Elt Ideal) (harg16.unread xl) (mainRun (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h3 x0 x4 x5 x6 x7 x8 xd xl xq).2.1) (ix2 128 k) = (0 : EReal) :=
  (lhs_keep c arg7 harg7 arg8 harg8 arg16 harg16 x4 x5 xl (ix2 128 k) rfl hk).trans (hz k hk)
end Out

end Cert.KernelIdeal.Gen

end
-- ==== Proof.ValRuns.lean ====
/- The runs of the body at the points, over the extended reals, with what they leave in `y` named. -/
module

public import proofs.«01_k».proof.Proof.ValY

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- What a step needs of the left matrix: nothing to the right of the output vector. -/
def xlOK (xl : Vec Ideal S144x256 .bf16) : Prop := ∀ k : Fin 256, 128 ≤ k.val → xl (ix2 128 k) = (0 : EReal)

/-- A whole load reads everything. -/
theorem ld_whole2 {a b : ℕ} {e : EltTy} (X : Vec Ideal ⟨2, ![a, b]⟩ e) (inb : ∀ k, (![0, 0] : Fin 2 → ℕ) k + (![a, b] : Fin 2 → ℕ) k ≤ (![a, b] : Fin 2 → ℕ) k) (x : (⟨2, ![a, b]⟩ : Shape).Idx) :
    View.ld X (Rect.unit (s := ⟨2, ![a, b]⟩) ![0, 0] ![a, b] inb) x = X x := by
  refine congrArg X ?_
  funext k; apply Fin.ext
  match k with
  | ⟨0, _⟩ => show 0 + 1 * (x 0).val = (x 0).val; omega
  | ⟨1, _⟩ => show 0 + 1 * (x 1).val = (x 1).val; omega

/-- The table of coefficients after the first point's store. -/
theorem read_store15 (arg15 : Memref sig .tc .vmem S256x128 .f32) (f) (x1 : Vec Ideal S256x48 .bf16) (x2 x3 : Vec Ideal S1x48 .f32) :
    arg15.view.read (Elt Ideal) (arg15.view.writes (Elt Ideal) f [⟨Rect.unit ![0, 0] S256x128.size inb_S256x128_S256x128_0_0,
      k0_pay12 (F := Ideal) (View.ld x1 (Rect.unit ![0, 0] S256x48.size inb_S256x48_S256x48_0_0)) (View.ld x2 (Rect.unit ![0, 0] S1x48.size inb_S1x48_S1x48_0_0)) (View.ld x3 (Rect.unit ![0, 0] S1x48.size inb_S1x48_S1x48_0_0))⟩]) = k0_pay12 (F := Ideal) x1 x2 x3 := by
  funext y
  have e : y = (Rect.unit (s := S256x128) ![0, 0] S256x128.size inb_S256x128_S256x128_0_0).emb y := by
    funext k; apply Fin.ext
    match k with
    | ⟨0, _⟩ => show (y 0).val = 0 + 1 * (y 0).val; omega
    | ⟨1, _⟩ => show (y 1).val = 0 + 1 * (y 1).val; omega
  conv_lhs => rw [e]
  rw [View.read_writes_cons_emb]
  congr 1
  · funext x; exact ld_whole2 x1 _ x
  · funext x; exact ld_whole2 x2 _ x
  · funext x; exact ld_whole2 x3 _ x

/-- The left matrix after the first point's stores: zeros in the right half. -/
theorem read_store16 (arg16 : Memref sig .tc .vmem S144x256 .bf16) (f) (L) :
    xlOK (arg16.view.read (Elt Ideal) (arg16.view.writes (Elt Ideal) f
      (⟨Rect.unit ![0, 128] S144x128.size inb_S144x256_S144x128_0_128, k0_pay1 (F := Ideal) k0_pay14⟩ :: L))) := by
  intro k hk
  have e : (ix2 128 k : S144x256.Idx) = (Rect.unit (s := S144x256) ![0, 128] S144x128.size inb_S144x256_S144x128_0_128).emb (ix2 128 ⟨k.val - 128, by omega⟩) := by
    funext a; apply Fin.ext
    match a with
    | ⟨0, _⟩ => rfl
    | ⟨1, _⟩ => show k.val = 128 + 1 * (k.val - 128); omega
  rw [e, View.read_writes_cons_emb]
  pointwise [k0_pay1, k0_pay14]

section Main
variable (c : Dev nD) (i : grid0.Coords) (arg3 : Memref sig .tc .vmem S1x48x64 .bf16) (harg3 : arg3.IsWhole) (arg4 : Memref sig .tc .vmem S256x48 .bf16) (harg4 : arg4.IsWhole) (arg5 : Memref sig .tc .vmem S1x48 .f32) (harg5 : arg5.IsWhole) (arg6 : Memref sig .tc .vmem S1x48 .f32) (harg6 : arg6.IsWhole) (arg7 : Memref sig .tc .vmem S1x1x128 .bf16) (harg7 : arg7.IsWhole) (arg8 : Memref sig .tc .vmem S1x1x128 .bf16) (harg8 : arg8.IsWhole) (arg9 : Memref sig .tc .vmem S24x128 .f32) (harg9 : arg9.IsWhole) (arg10 : Memref sig .tc .vmem S1x48x64x128 .fp8e4m3) (harg10 : arg10.IsWhole) (arg11 : Memref sig .tc .vmem S1x48x64 .f32) (harg11 : arg11.IsWhole) (arg12 : Memref sig .tc .vmem S1x48x64 .bf16) (harg12 : arg12.IsWhole) (arg13 : Memref sig .tc .vmem S1x48x64x128 .fp8e4m3) (harg13 : arg13.IsWhole) (arg14 : Memref sig .tc .vmem S1x48x64 .f32) (harg14 : arg14.IsWhole) (arg15 : Memref sig .tc .vmem S256x128 .f32) (harg15 : arg15.IsWhole) (arg16 : Memref sig .tc .vmem S144x256 .bf16) (harg16 : arg16.IsWhole) (arg17 : Memref sig .tc .vmem S192x128 .f32) (harg17 : arg17.IsWhole) (arg18 : Memref sig .tc .vmem S24x128x128 .f32) (harg18 : arg18.IsWhole) (arg19 : Memref sig .tc .vmem S192x128 .f32) (harg19 : arg19.IsWhole) (arg20 : Memref sig .tc .vmem S24x128 .f32) (harg20 : arg20.IsWhole) (arg21 : Memref sig .tc .vmem S24x128 .f32) (harg21 : arg21.IsWhole)
  (x0 : Vec Ideal S1x48x64 .bf16) (x1 : Vec Ideal S256x48 .bf16) (x2 : Vec Ideal S1x48 .f32) (x3 : Vec Ideal S1x48 .f32) (x4 : Vec Ideal S1x1x128 .bf16) (x5 : Vec Ideal S1x1x128 .bf16) (x6 : Vec Ideal S24x128 .f32) (x7 : Vec Ideal S1x48x64x128 .fp8e4m3) (x8 : Vec Ideal S1x48x64 .f32) (xd : Vec Ideal S256x128 .f32)

/-- The step, its `y` and its left matrix read back. -/
theorem mainTriple (k0_h3 : k0_cond3 i = 1#1) (E : Set ℕ) (K : PUnit → sProp 𝕄) :
    iprop(owns (c : Thread nD τ) arg3 fullShare x0 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg15 fullShare xd ∗ (∃ d, ⌜xlOK d⌝ ∗ owns (c : Thread nD τ) arg16 fullShare d) ∗ (∃ d, owns (c : Thread nD τ) arg17 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg3 fullShare x0 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg15 fullShare xd ∗ (∃ d, ⌜xlOK d⌝ ∗ owns (c : Thread nD τ) arg16 fullShare d) ∗ (∃ d, owns (c : Thread nD τ) arg17 fullShare d) ∗ owns (c : Thread nD τ) arg12 fullShare (yV x0 x4 x5 x6 x7 x8 (fun l => xd (ix2 ⟨(i 0).val, cond3_lt i k0_h3⟩ l))) ∗ (∃ d, owns (c : Thread nD τ) arg13 fullShare d) ∗ (∃ d, owns (c : Thread nD τ) arg14 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
      ⊢ wp frame (wpE (defs₀ (F := Ideal)) Variants.none c none) E (mainProg i tbM0_0 htbM0_0 tbM0_1 htbM0_1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h3) K := by
  iintro ⟨H3, H7, H8, H9, H10, H11, H15, ⟨%xl, %hz, H16⟩, ⟨%xq, H17⟩, H12, H13, H14, H18, H19, H20, H21, Hk⟩
  iapply ((mainRun (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h3 x0 x4 x5 x6 x7 x8 xd xl xq).2.2 E K)
  isplitl [H3]; · iexact H3
  isplitl [H7]; · iexact H7
  isplitl [H8]; · iexact H8
  isplitl [H9]; · iexact H9
  isplitl [H10]; · iexact H10
  isplitl [H11]; · iexact H11
  isplitl [H15]; · iexact H15
  isplitl [H16]; · iexact H16
  isplitl [H17]; · iexact H17
  isplitl [H12]; · iexact H12
  isplitl [H13]; · iexact H13
  isplitl [H14]; · iexact H14
  isplitl [H18]; · iexact H18
  isplitl [H19]; · iexact H19
  isplitl [H20]; · iexact H20
  isplitl [H21]; · iexact H21
  iintro ⟨H3, H7, H8, H9, H10, H11, H15, H16, H17, ⟨%f, H12⟩, H13, H14, H18, H19, H20, H21⟩
  iapply Hk
  isplitl [H3]; · iexact H3
  isplitl [H7]; · iexact H7
  isplitl [H8]; · iexact H8
  isplitl [H9]; · iexact H9
  isplitl [H10]; · iexact H10
  isplitl [H11]; · iexact H11
  isplitl [H15]; · iexact H15
  isplitl [H16]
  · iexists (arg16.view.read (Elt Ideal) (arg16.view.writes (Elt Ideal) (harg16.unread xl) (mainRun (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h3 x0 x4 x5 x6 x7 x8 xd xl xq).2.1))
    isplitr
    · ipureintro; exact fun k hk => mainLS c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h3 x0 x4 x5 x6 x7 x8 xd xl xq hz k hk
    unfold owns
    iexists _; isplitr; swap; · iexact H16
    ipureintro; rfl
  isplitl [H17]; · iexact H17
  isplitl [H12]
  · unfold owns
    iexists _; isplitr; swap; · iexact H12
    ipureintro; exact mainY c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h3 x0 x4 x5 x6 x7 x8 xd xl xq hz f
  isplitl [H13]; · iexact H13
  isplitl [H14]; · iexact H14
  isplitl [H18]; · iexact H18
  isplitl [H19]; · iexact H19
  isplitl [H20]; · iexact H20
  iexact H21

variable (xt0 : TbBuf0 (F := Ideal) c tbM0_0) (xt1 : TbBuf0 (F := Ideal) c tbM0_1)

set_option maxHeartbeats 1000000 in
/-- A point of the batch after the first. -/
theorem valRun_B (hc0 : ¬cond0_0 i) (hc1 : ¬cond0_1 i) (k0_h3 : k0_cond3 i = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xd ∗ (∃ d, ⌜xlOK d⌝ ∗ owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare (yV x0 x4 x5 x6 x7 x8 (fun l => xd (ix2 ⟨(i 0).val, cond3_lt i k0_h3⟩ l))) ∗ (∃ d, owns (c : Thread nD τ) arg13 fullShare d) ∗ (∃ d, owns (c : Thread nD τ) arg14 fullShare d) ∗ owns (c : Thread nD τ) arg15 fullShare xd ∗ (∃ d, ⌜xlOK d⌝ ∗ owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ tbPt0 c tbM0_0 xt0 ∗ tbPt0 c tbM0_1 xt1) -∗ K ⟨⟩))
      ⊢ wp frame (wpE (defs₀ (F := Ideal)) Variants.none c none) E (cc0_ssu i tbM0_0 htbM0_0 tbM0_1 htbM0_1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  have hc2 : cond0_2 i := k0_h3
  simp only [cc0_ssu_eq_skeleton]; unfold cc0_ssu_skel
  iintro ⟨H3, H4, H5, H6, H7, H8, H9, H10, H11, H12, H13, H14, H15, H16, H17, H18, H19, H20, H21, HT0, HT1, Hk⟩
  set_option sl_exec.stopBefore "k0_part61" in
  sl_exec (disch := first | sl_exact hc0 | sl_exact hc1 | sl_exact hc2)
  have main := mainTriple c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x4 x5 x6 x7 x8 xd k0_h3 E K
  unfold mainProg at main
  iapply main
  isplitl [H3]; · iexact H3
  isplitl [H7]; · iexact H7
  isplitl [H8]; · iexact H8
  isplitl [H9]; · iexact H9
  isplitl [H10]; · iexact H10
  isplitl [H11]; · iexact H11
  isplitl [H15]; · iexact H15
  isplitl [H16]; · iexact H16
  isplitl [H17]; · iexact H17
  isplitl [H12]; · iexact H12
  isplitl [H13]; · iexact H13
  isplitl [H14]; · iexact H14
  isplitl [H18]; · iexact H18
  isplitl [H19]; · iexact H19
  isplitl [H20]; · iexact H20
  isplitl [H21]; · iexact H21
  iintro ⟨H3, H7, H8, H9, H10, H11, H15, H16, H17, H12, H13, H14, H18, H19, H20, H21⟩
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [HT0]; · iexact HT0
  iexact HT1

set_option maxHeartbeats 1000000 in
/-- The first point: the tables are filled, then the step. -/
theorem valRun_A (hc0 : cond0_0 i) (hc1 : ¬cond0_1 i) (k0_h3 : k0_cond3 i = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare (yV x0 x4 x5 x6 x7 x8 (fun l => k0_pay12 (F := Ideal) x1 x2 x3 (ix2 ⟨(i 0).val, cond3_lt i k0_h3⟩ l))) ∗ (∃ d, owns (c : Thread nD τ) arg13 fullShare d) ∗ (∃ d, owns (c : Thread nD τ) arg14 fullShare d) ∗ owns (c : Thread nD τ) arg15 fullShare (k0_pay12 (F := Ideal) x1 x2 x3) ∗ (∃ d, ⌜xlOK d⌝ ∗ owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ tbPt0 c tbM0_0 xt0 ∗ tbPt0 c tbM0_1 xt1) -∗ K ⟨⟩))
      ⊢ wp frame (wpE (defs₀ (F := Ideal)) Variants.none c none) E (cc0_ssu i tbM0_0 htbM0_0 tbM0_1 htbM0_1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  have hc2 : cond0_2 i := k0_h3
  simp only [cc0_ssu_eq_skeleton]; unfold cc0_ssu_skel
  iintro ⟨H3, H4, H5, H6, H7, H8, H9, H10, H11, H12, H13, H14, ⟨%d15, H15⟩, ⟨%d16, H16⟩, ⟨%d17, H17⟩, H18, H19, H20, H21, HT0, HT1, Hk⟩
  ihave ⟨%f4, %hf4, H4⟩ := (show owns (c : Thread nD τ) arg4 fullShare x1 ⊢ iprop(∃ f, ⌜arg4.view.read (Elt Ideal) f = x1⌝ ∗ (arg4.view.loc (c : Thread nD τ) ↦[arg4.view.set]{fullShare} f)) from by unfold owns; exact .rfl) $$ H4
  ihave ⟨%f5, %hf5, H5⟩ := (show owns (c : Thread nD τ) arg5 fullShare x2 ⊢ iprop(∃ f, ⌜arg5.view.read (Elt Ideal) f = x2⌝ ∗ (arg5.view.loc (c : Thread nD τ) ↦[arg5.view.set]{fullShare} f)) from by unfold owns; exact .rfl) $$ H5
  ihave ⟨%f6, %hf6, H6⟩ := (show owns (c : Thread nD τ) arg6 fullShare x3 ⊢ iprop(∃ f, ⌜arg6.view.read (Elt Ideal) f = x3⌝ ∗ (arg6.view.loc (c : Thread nD τ) ↦[arg6.view.set]{fullShare} f)) from by unfold owns; exact .rfl) $$ H6
  ihave ⟨%f15, -, H15⟩ := (show owns (c : Thread nD τ) arg15 fullShare d15 ⊢ iprop(∃ f, ⌜arg15.view.read (Elt Ideal) f = d15⌝ ∗ (arg15.view.loc (c : Thread nD τ) ↦[arg15.view.set]{fullShare} f)) from by unfold owns; exact .rfl) $$ H15
  ihave ⟨%f16, -, H16⟩ := (show owns (c : Thread nD τ) arg16 fullShare d16 ⊢ iprop(∃ f, ⌜arg16.view.read (Elt Ideal) f = d16⌝ ∗ (arg16.view.loc (c : Thread nD τ) ↦[arg16.view.set]{fullShare} f)) from by unfold owns; exact .rfl) $$ H16
  ihave ⟨%f17, -, H17⟩ := (show owns (c : Thread nD τ) arg17 fullShare d17 ⊢ iprop(∃ f, ⌜arg17.view.read (Elt Ideal) f = d17⌝ ∗ (arg17.view.loc (c : Thread nD τ) ↦[arg17.view.set]{fullShare} f)) from by unfold owns; exact .rfl) $$ H17
  obtain rfl := harg4.eq_unread hf4; obtain rfl := harg5.eq_unread hf5; obtain rfl := harg6.eq_unread hf6
  set_option sl_exec.stopBefore "k0_part61" in
  sl_exec (disch := first | sl_exact hc0 | sl_exact hc1 | sl_exact hc2)
  have main := mainTriple c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x4 x5 x6 x7 x8 (k0_pay12 (F := Ideal) x1 x2 x3) k0_h3 E K
  unfold mainProg at main
  iapply main
  isplitl [H3]; · iexact H3
  isplitl [H7]; · iexact H7
  isplitl [H8]; · iexact H8
  isplitl [H9]; · iexact H9
  isplitl [H10]; · iexact H10
  isplitl [H11]; · iexact H11
  isplitl [H15]
  · unfold owns
    iexists _; isplitr; swap; · iexact H15
    ipureintro
    rw [View.readAt_eq_ld arg4.view, View.readAt_eq_ld arg5.view, View.readAt_eq_ld arg6.view, harg4.read_unread, harg5.read_unread, harg6.read_unread]
    exact read_store15 arg15 f15 x1 x2 x3
  isplitl [H16]
  · iexists _
    isplitr; swap
    · unfold owns
      iexists _; isplitr; swap; · iexact H16
      ipureintro; rfl
    ipureintro
    exact read_store16 arg16 f16 _
  isplitl [H17]
  · iexists _
    unfold owns
    iexists _; isplitr; swap; · iexact H17
    ipureintro; rfl
  isplitl [H12]; · iexact H12
  isplitl [H13]; · iexact H13
  isplitl [H14]; · iexact H14
  isplitl [H18]; · iexact H18
  isplitl [H19]; · iexact H19
  isplitl [H20]; · iexact H20
  isplitl [H21]; · iexact H21
  iintro ⟨H3, H7, H8, H9, H10, H11, H15, H16, H17, H12, H13, H14, H18, H19, H20, H21⟩
  iapply Hk
  isplitl [H3]; · iexact H3
  isplitl [H4]
  · unfold owns; iexists _; isplitr; swap; · iexact H4
    ipureintro; exact harg4.read_unread _
  isplitl [H5]
  · unfold owns; iexists _; isplitr; swap; · iexact H5
    ipureintro; exact harg5.read_unread _
  isplitl [H6]
  · unfold owns; iexists _; isplitr; swap; · iexact H6
    ipureintro; exact harg6.read_unread _
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [HT0]; · iexact HT0
  iexact HT1

set_option maxHeartbeats 1000000 in
/-- A point after the batch: nothing but the copies. -/
theorem valRun_C (hc0 : ¬cond0_0 i) (hc1 : cond0_1 i) (hc2 : ¬cond0_2 i) (E : Set ℕ) (K : PUnit → sProp 𝕄) :
    iprop(owns (c : Thread nD τ) arg10 fullShare x7 ∗ owns (c : Thread nD τ) arg11 fullShare x8 ∗ (∃ d, owns (c : Thread nD τ) arg13 fullShare d) ∗ (∃ d, owns (c : Thread nD τ) arg14 fullShare d)
        ∗ (iprop(owns (c : Thread nD τ) arg10 fullShare x7 ∗ owns (c : Thread nD τ) arg11 fullShare x8 ∗ (∃ d, owns (c : Thread nD τ) arg13 fullShare d) ∗ (∃ d, owns (c : Thread nD τ) arg14 fullShare d)) -∗ K ⟨⟩))
      ⊢ wp frame (wpE (defs₀ (F := Ideal)) Variants.none c none) E (cc0_ssu i tbM0_0 htbM0_0 tbM0_1 htbM0_1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_ssu_eq_skeleton]; unfold cc0_ssu_skel
  unfold owns
  iintro ⟨⟨%f10, %hf10, H10⟩, ⟨%f11, %hf11, H11⟩, ⟨%d13, %f13, -, H13⟩, ⟨%d14, %f14, -, H14⟩, Hk⟩
  obtain rfl := harg10.eq_unread hf10; obtain rfl := harg11.eq_unread hf11
  sl_exec (disch := first | sl_exact hc0 | sl_exact hc1 | sl_exact hc2)
  sl_step
  iapply Hk
  isplitl [H10]
  · iexists _; isplitr; · ipureintro; exact harg10.read_unread _
    iexact H10
  isplitl [H11]
  · iexists _; isplitr; · ipureintro; exact harg11.read_unread _
    iexact H11
  isplitl [H13]
  · iexists _, _; isplitr; swap; · iexact H13
    ipureintro; rfl
  iexists _, _; isplitr; swap; · iexact H14
  ipureintro; rfl

end Main

end Cert.KernelIdeal.Gen

end
-- ==== Proof.ValFrame.lean ====
/- The run of the kernel over the extended reals, with the result `y` named. -/
module

public import proofs.«01_k».proof.Proof.ValRuns
public import proofs.«01_k».proof.Proof.KernelIdealOk
public import Idealize.ShloMosaic.Lib.Claim
public import Idealize.ShloMosaic.Lib.Pipeline.TableIdle

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! ## The schedule of the window of `y` -/

theorem coords0 : ∀ t : Fin grid0.N, (grid0.coords t 0).val = t.val := by decide +kernel

theorem index9 : ∀ t : Fin grid0.N, cc0_transform_9 (grid0.coords t) = ![min t.val 255, 0, 0] := by decide +kernel

theorem flushOf9 : ∀ t : Fin grid0.N, Pipeline.Window.flushOf grid0 true cc0_transform_9 t = (decide (t.val < 255) || decide (t.val = 322)) := by
  decide +kernel

theorem idle9 : ∀ t : Fin grid0.N, idle0 9 (grid0.coords t) = decide (256 ≤ t.val) := by decide +kernel

variable (m : (ℓ : Loc nD τ sig) → Buf (Elt Ideal) ℓ) (ρ : Dev nD → PrngReg)

theorem flush9 (hO : Ok m) (t : Fin (cfgM m hO).N) : ((cfgM m hO).win 9).flush t = (decide (t.val < 255) || decide (t.val = 322)) := flushOf9 t

theorem fresh9 (hO : Ok m) (n : ℕ) (hn : n ≤ (cfgM m hO).N) : (cfgM m hO).fresh 9 n = decide (n < 256 ∨ n = 323) := by
  refine (cfgM m hO).fresh_tab 9 (fun n => decide (n < 256 ∨ n = 323)) (by decide) (fun t => ?_) n hn
  rw [flush9, show (cfgM m hO).idle 9 ((cfgM m hO).grid.coords t) = decide (256 ≤ t.val) from idle9 t]
  have hN : t.val < 323 := lt_of_lt_of_eq t.isLt (show (cfgM m hO).N = 323 from N_0)
  rw [Bool.eq_iff_iff]
  simp only [decide_eq_true_eq, Bool.or_eq_true, Bool.and_eq_true]
  omega

/-! ## The pipeline's proof data -/

/-- The outputs of which nothing is stated: the codes and the scales. -/
def forgetsV : Fin 12 → Bool := fun w => w.val == 10 || w.val == 11

/-- The first point. -/
def pt0 (hO : Ok m) : Fin (cfgM m hO).N := ⟨0, by rw [show (cfgM m hO).N = 323 from N_0]; omega⟩

/-- The point of the batch whose result the buffer of `y` holds after point `t`. -/
def ptY (hO : Ok m) (t : Fin (cfgM m hO).N) : Fin (cfgM m hO).N := ⟨min t.val 255, by have := t.isLt; omega⟩

/-- The table of step sizes and decays the first point fills. -/
def ddV (hO : Ok m) (c : Dev nD) : Vec Ideal S256x128 .f32 :=
  k0_pay12 (F := Ideal) (iblk m hO c 1 (pt0 m hO)) (iblk m hO c 2 (pt0 m hO)) (iblk m hO c 3 (pt0 m hO))

/-- The result of point `t` of the batch. -/
def yAt (hO : Ok m) (c : Dev nD) (t : Fin (cfgM m hO).N) : Vec Ideal S1x48x64 .bf16 :=
  yV (iblk m hO c 0 t) (iblk m hO c 4 t) (iblk m hO c 5 t) (iblk m hO c 6 t) (iblk m hO c 7 t) (iblk m hO c 8 t)
    (fun l => ddV m hO c (ix2 ⟨min t.val 255, by omega⟩ l))

/-- The scratch after the first point: the table filled, and nothing to the right of the output vector. -/
def scrV (hO : Ok m) (c : Dev nD) : sProp 𝕄 :=
  iprop(iprop(owns (c : Thread nD τ) scM0_0 fullShare (ddV m hO c) ∗ (∃ d, ⌜xlOK d⌝ ∗ owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r))

/-- The invariant between the points. -/
def PhiV (hO : Ok m) (c : Dev nD) (n : ℕ) : sProp 𝕄 :=
  if n = 0 then iprop(Pipeline.ΦA spec0 c ∗ Pipeline.ΦT pre0 (tbl m) c) else iprop(scrV m hO c ∗ Pipeline.ΦT pre0 (tbl m) c)

/-- The proof data of the pipeline on core `c`, with the window of `y` named. -/
def datsV (hO : Ok m) (_ : Fin 1) (c : Dev nD) : Dat τ (Elt Ideal) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => yAt m hO c (ptY m hO t)
    | ⟨10, h⟩ => Pipeline.Dat.unnamed (cfg := (cfgM m hO)) ⟨10, h⟩ t
    | ⟨11, h⟩ => Pipeline.Dat.unnamed (cfg := (cfgM m hO)) ⟨11, h⟩ t
  Φ n := PhiV m hO c n.val
  q _ := fullShare
  owed _ := 0

theorem A_eqV (hO : Ok m) (c : Dev nD) (w : Fin (cfgM m hO).W) : (datsV m hO 0 c).A w = V m c (Pipeline.arrRef spec0 w) := by
  dsimp only [datsV]

theorem afterV_0 (hO : Ok m) (c : Dev nD) (t : Fin (cfgM m hO).N) : (datsV m hO 0 c).after 0 t = iblk m hO c 0 t := by dsimp only [datsV]; try rfl
theorem afterV_1 (hO : Ok m) (c : Dev nD) (t : Fin (cfgM m hO).N) : (datsV m hO 0 c).after 1 t = iblk m hO c 1 t := by dsimp only [datsV]; try rfl
theorem afterV_2 (hO : Ok m) (c : Dev nD) (t : Fin (cfgM m hO).N) : (datsV m hO 0 c).after 2 t = iblk m hO c 2 t := by dsimp only [datsV]; try rfl
theorem afterV_3 (hO : Ok m) (c : Dev nD) (t : Fin (cfgM m hO).N) : (datsV m hO 0 c).after 3 t = iblk m hO c 3 t := by dsimp only [datsV]; try rfl
theorem afterV_4 (hO : Ok m) (c : Dev nD) (t : Fin (cfgM m hO).N) : (datsV m hO 0 c).after 4 t = iblk m hO c 4 t := by dsimp only [datsV]; try rfl
theorem afterV_5 (hO : Ok m) (c : Dev nD) (t : Fin (cfgM m hO).N) : (datsV m hO 0 c).after 5 t = iblk m hO c 5 t := by dsimp only [datsV]; try rfl
theorem afterV_6 (hO : Ok m) (c : Dev nD) (t : Fin (cfgM m hO).N) : (datsV m hO 0 c).after 6 t = iblk m hO c 6 t := by dsimp only [datsV]; try rfl
theorem afterV_7 (hO : Ok m) (c : Dev nD) (t : Fin (cfgM m hO).N) : (datsV m hO 0 c).after 7 t = iblk m hO c 7 t := by dsimp only [datsV]; try rfl
theorem afterV_8 (hO : Ok m) (c : Dev nD) (t : Fin (cfgM m hO).N) : (datsV m hO 0 c).after 8 t = iblk m hO c 8 t := by dsimp only [datsV]; try rfl
theorem afterV_9 (hO : Ok m) (c : Dev nD) (t : Fin (cfgM m hO).N) : (datsV m hO 0 c).after 9 t = yAt m hO c (ptY m hO t) := by dsimp only [datsV]; try rfl

theorem beforeV_0 (hO : Ok m) (c : Dev nD) (t : Fin (cfgM m hO).N) (d) : (datsV m hO 0 c).before 0 t d = iblk m hO c 0 t :=
  before0_0_of m hO (datsV m hO 0 c) (A_eqV m hO c 0) (afterV_0 m hO c) t d
theorem beforeV_1 (hO : Ok m) (c : Dev nD) (t : Fin (cfgM m hO).N) (d) : (datsV m hO 0 c).before 1 t d = iblk m hO c 1 t :=
  before0_1_of m hO (datsV m hO 0 c) (A_eqV m hO c 1) (afterV_1 m hO c) t d
theorem beforeV_2 (hO : Ok m) (c : Dev nD) (t : Fin (cfgM m hO).N) (d) : (datsV m hO 0 c).before 2 t d = iblk m hO c 2 t :=
  before0_2_of m hO (datsV m hO 0 c) (A_eqV m hO c 2) (afterV_2 m hO c) t d
theorem beforeV_3 (hO : Ok m) (c : Dev nD) (t : Fin (cfgM m hO).N) (d) : (datsV m hO 0 c).before 3 t d = iblk m hO c 3 t :=
  before0_3_of m hO (datsV m hO 0 c) (A_eqV m hO c 3) (afterV_3 m hO c) t d
theorem beforeV_4 (hO : Ok m) (c : Dev nD) (t : Fin (cfgM m hO).N) (d) : (datsV m hO 0 c).before 4 t d = iblk m hO c 4 t :=
  before0_4_of m hO (datsV m hO 0 c) (A_eqV m hO c 4) (afterV_4 m hO c) t d
theorem beforeV_5 (hO : Ok m) (c : Dev nD) (t : Fin (cfgM m hO).N) (d) : (datsV m hO 0 c).before 5 t d = iblk m hO c 5 t :=
  before0_5_of m hO (datsV m hO 0 c) (A_eqV m hO c 5) (afterV_5 m hO c) t d
theorem beforeV_6 (hO : Ok m) (c : Dev nD) (t : Fin (cfgM m hO).N) (d) : (datsV m hO 0 c).before 6 t d = iblk m hO c 6 t :=
  before0_6_of m hO (datsV m hO 0 c) (A_eqV m hO c 6) (afterV_6 m hO c) t d
theorem beforeV_7 (hO : Ok m) (c : Dev nD) (t : Fin (cfgM m hO).N) (d) : (datsV m hO 0 c).before 7 t d = iblk m hO c 7 t :=
  before0_7_of m hO (datsV m hO 0 c) (A_eqV m hO c 7) (afterV_7 m hO c) t d
theorem beforeV_8 (hO : Ok m) (c : Dev nD) (t : Fin (cfgM m hO).N) (d) : (datsV m hO 0 c).before 8 t d = iblk m hO c 8 t :=
  before0_8_of m hO (datsV m hO 0 c) (A_eqV m hO c 8) (afterV_8 m hO c) t d

/-- After the batch the buffer of `y` still holds what the last point of the batch left. -/
theorem beforeV_9 (hO : Ok m) (c : Dev nD) (t : Fin (cfgM m hO).N) (ht : 256 ≤ t.val) (d) :
    (datsV m hO 0 c).before 9 t d = yAt m hO c (ptY m hO t) := by
  have hN : t.val < 323 := lt_of_lt_of_eq t.isLt (show (cfgM m hO).N = 323 from N_0)
  have carry : ∀ (t : Fin (cfgM m hO).N) (h : 256 ≤ t.val), (datsV m hO 0 c).after 9 ⟨t.val - 1, by have := t.isLt; omega⟩ = yAt m hO c (ptY m hO t) := by
    intro t h
    rw [afterV_9]
    refine congrArg (yAt m hO c) (Fin.ext ?_)
    show min (t.val - 1) 255 = min t.val 255
    omega
  rw [(datsV m hO 0 c).before_out_traj 9 rfl (fun _ _ => rfl) (fun t h0 hi _ => ?_) t.val t rfl d, fresh9 m hO t.val t.isLt.le,
    if_neg (by simp; omega), carry t ht]
  have h256 : 256 ≤ t.val := of_decide_eq_true ((idle9 t).symm.trans hi)
  rw [afterV_9, carry t h256]

/-- The window of `y` is left as named. -/
theorem leaves9 (hO : Ok m) (c : Dev nD) (t : Fin (cfgM m hO).N) :
    owns (c : Thread nD τ) (ms0_9 m hO t) fullShare (yAt m hO c (ptY m hO t)) ⊢ (datsV m hO 0 c).leavesExact 9 t := by
  by_cases h : 256 ≤ t.val
  · by_cases hf : ((cfgM m hO).win 9).flush t = true
    · unfold Dat.leavesExact
      rw [show (cfgM m hO).idle 9 ((cfgM m hO).grid.coords t) = true from (idle9 t).trans (decide_eq_true h), hf]
      rw [← afterV_9]; exact .rfl
    · rw [Bool.not_eq_true] at hf
      unfold Dat.leavesExact
      rw [show (cfgM m hO).idle 9 ((cfgM m hO).grid.coords t) = true from (idle9 t).trans (decide_eq_true h), hf]
      refine exists_intro_trans (Ψ := fun d => owns (c : Thread nD τ) (ms0_9 m hO t) fullShare ((datsV m hO 0 c).before 9 t d)) ((datsV m hO 0 c).after 9 t) ?_
      rw [beforeV_9 m hO c t h]
  · unfold Dat.leavesExact
    rw [show (cfgM m hO).idle 9 ((cfgM m hO).grid.coords t) = false from (idle9 t).trans (decide_eq_false h)]
    rw [← afterV_9]; exact .rfl

/-- The result a point of the batch leaves, as its run states it, is the one named. -/
theorem yAt_of (hO : Ok m) (c : Dev nD) (t : Fin (cfgM m hO).N) (h : t.val < 256) (k0_h3 : k0_cond3 (grid0.coords t) = 1#1) :
    yV (iblk m hO c 0 t) (iblk m hO c 4 t) (iblk m hO c 5 t) (iblk m hO c 6 t) (iblk m hO c 7 t) (iblk m hO c 8 t)
        (fun l => ddV m hO c (ix2 ⟨(grid0.coords t 0).val, cond3_lt (grid0.coords t) k0_h3⟩ l))
      = yAt m hO c (ptY m hO t) := by
  have e : ptY m hO t = t := Fin.ext (by show min t.val 255 = t.val; omega)
  rw [e]
  unfold yAt
  congr 1
  funext l
  refine congrArg (fun q => ddV m hO c (ix2 q l)) (Fin.ext ?_)
  show (grid0.coords t 0).val = min t.val 255
  rw [coords0 t]; omega

/-! ## The body obligation, at a generic point -/

/-- What the body is called with at point `t` (Lib/Pipeline.lean `BodyObligation`'s precondition, the windows one by one), -/
def bodyPreV (hO : Ok m) (c : Dev nD) (t : Fin (cfgM m hO).N) : sProp 𝕄 :=
  iprop((datsV m hO 0 c).Φ t.castSucc ∗ (datsV m hO 0 c).owesAt () t.castSucc
    ∗ (∃ d, owns (c : Thread nD τ) (ms0_0 m hO t) fullShare ((datsV m hO 0 c).before 0 t d))
    ∗ (∃ d, owns (c : Thread nD τ) (ms0_1 m hO t) fullShare ((datsV m hO 0 c).before 1 t d))
    ∗ (∃ d, owns (c : Thread nD τ) (ms0_2 m hO t) fullShare ((datsV m hO 0 c).before 2 t d))
    ∗ (∃ d, owns (c : Thread nD τ) (ms0_3 m hO t) fullShare ((datsV m hO 0 c).before 3 t d))
    ∗ (∃ d, owns (c : Thread nD τ) (ms0_4 m hO t) fullShare ((datsV m hO 0 c).before 4 t d))
    ∗ (∃ d, owns (c : Thread nD τ) (ms0_5 m hO t) fullShare ((datsV m hO 0 c).before 5 t d))
    ∗ (∃ d, owns (c : Thread nD τ) (ms0_6 m hO t) fullShare ((datsV m hO 0 c).before 6 t d))
    ∗ (∃ d, owns (c : Thread nD τ) (ms0_7 m hO t) fullShare ((datsV m hO 0 c).before 7 t d))
    ∗ (∃ d, owns (c : Thread nD τ) (ms0_8 m hO t) fullShare ((datsV m hO 0 c).before 8 t d))
    ∗ (∃ d, owns (c : Thread nD τ) (ms0_9 m hO t) fullShare ((datsV m hO 0 c).before 9 t d))
    ∗ (∃ d, owns (c : Thread nD τ) (ms0_10 m hO t) fullShare d)
    ∗ (∃ d, owns (c : Thread nD τ) (ms0_11 m hO t) fullShare d))

/-- and what it returns. -/
def bodyPostV (hO : Ok m) (c : Dev nD) (t : Fin (cfgM m hO).N) : sProp 𝕄 :=
  iprop((datsV m hO 0 c).Φ t.succ ∗ (datsV m hO 0 c).owesAt () t.succ
    ∗ (datsV m hO 0 c).leavesExact 0 t
    ∗ (datsV m hO 0 c).leavesExact 1 t
    ∗ (datsV m hO 0 c).leavesExact 2 t
    ∗ (datsV m hO 0 c).leavesExact 3 t
    ∗ (datsV m hO 0 c).leavesExact 4 t
    ∗ (datsV m hO 0 c).leavesExact 5 t
    ∗ (datsV m hO 0 c).leavesExact 6 t
    ∗ (datsV m hO 0 c).leavesExact 7 t
    ∗ (datsV m hO 0 c).leavesExact 8 t
    ∗ (datsV m hO 0 c).leavesExact 9 t
    ∗ (∃ d, owns (c : Thread nD τ) (ms0_10 m hO t) fullShare d)
    ∗ (∃ d, owns (c : Thread nD τ) (ms0_11 m hO t) fullShare d))

set_option maxHeartbeats 4800000 in
/-- The first point. -/
theorem soundV_A (hO : Ok m) (c : Dev nD) (t : Fin (cfgM m hO).N) (h0 : t.val = 0) :
    bodyPreV m hO c t ⊢ wp frame (wpE (defs₀ (F := Ideal)) Variants.none c none) Set.univ (bodyAt0 (adm m hO) t) (fun _ => bodyPostV m hO c t) := by
  unfold bodyPreV bodyPostV bodyAt0
  simp only [beforeV_0, beforeV_1, beforeV_2, beforeV_3, beforeV_4, beforeV_5, beforeV_6, beforeV_7, beforeV_8]
  rw [show (datsV m hO 0 c).Φ t.succ = PhiV m hO c (t.val + 1) from rfl,
    show (datsV m hO 0 c).owesAt () t.succ = (datsV m hO 0 c).owesAt () t.castSucc from rfl]
  rw [show (datsV m hO 0 c).Φ t.castSucc = PhiV m hO c t.val from rfl]
  have h2 : t.val < 256 := by omega
  have et : pt0 m hO = t := Fin.ext h0.symm
  rw [PhiV, if_pos h0, PhiV, if_neg (by omega : ¬t.val + 1 = 0), PhiT0_eq, PhiA0_eq, scrV]
  have hdd : ddV m hO c = k0_pay12 (F := Ideal) (iblk m hO c 1 t) (iblk m hO c 2 t) (iblk m hO c 3 t) := by rw [ddV, et]
  rw [show (datsV m hO 0 c).leavesExact 0 t = owns (c : Thread nD τ) (ms0_0 m hO t) fullShare ((datsV m hO 0 c).after 0 t) from by
    unfold Dat.leavesExact; rw [liveAt0_0 m hO t]; try rfl, afterV_0]
  rw [show (datsV m hO 0 c).leavesExact 1 t = owns (c : Thread nD τ) (ms0_1 m hO t) fullShare ((datsV m hO 0 c).after 1 t) from by
    unfold Dat.leavesExact; rw [liveAt0_1 m hO t]; try rfl, afterV_1]
  rw [show (datsV m hO 0 c).leavesExact 2 t = owns (c : Thread nD τ) (ms0_2 m hO t) fullShare ((datsV m hO 0 c).after 2 t) from by
    unfold Dat.leavesExact; rw [liveAt0_2 m hO t]; try rfl, afterV_2]
  rw [show (datsV m hO 0 c).leavesExact 3 t = owns (c : Thread nD τ) (ms0_3 m hO t) fullShare ((datsV m hO 0 c).after 3 t) from by
    unfold Dat.leavesExact; rw [liveAt0_3 m hO t]; try rfl, afterV_3]
  rw [show (datsV m hO 0 c).leavesExact 4 t = owns (c : Thread nD τ) (ms0_4 m hO t) fullShare ((datsV m hO 0 c).after 4 t) from by
    unfold Dat.leavesExact; rw [liveAt0_4 m hO t]; try rfl, afterV_4]
  rw [show (datsV m hO 0 c).leavesExact 5 t = owns (c : Thread nD τ) (ms0_5 m hO t) fullShare ((datsV m hO 0 c).after 5 t) from by
    unfold Dat.leavesExact; rw [liveAt0_5 m hO t]; try rfl, afterV_5]
  rw [show (datsV m hO 0 c).leavesExact 6 t = owns (c : Thread nD τ) (ms0_6 m hO t) fullShare ((datsV m hO 0 c).after 6 t) from by
    unfold Dat.leavesExact; rw [liveAt0_6 m hO t]; try rfl, afterV_6]
  rw [show (datsV m hO 0 c).leavesExact 7 t = owns (c : Thread nD τ) (ms0_7 m hO t) fullShare ((datsV m hO 0 c).after 7 t) from by
    unfold Dat.leavesExact; rw [liveAt0_7 m hO t]; try rfl, afterV_7]
  rw [show (datsV m hO 0 c).leavesExact 8 t = owns (c : Thread nD τ) (ms0_8 m hO t) fullShare ((datsV m hO 0 c).after 8 t) from by
    unfold Dat.leavesExact; rw [liveAt0_8 m hO t]; try rfl, afterV_8]
  iintro ⟨⟨⟨⟨HS0, HS1, HS2, HS3, HS4, HS5, HS6⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (valRun_A c (grid0.coords t) _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) ((hcond0_0 t).mpr (by omega)) (fun h => by have := (hcond0_1 t).mp h; omega) ((hcond0_2 t).mpr h2) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HT0]; · iexact HT0
  isplitl [HT1]; · iexact HT1
  rw [← hdd]
  iintro ⟨H0, H1, H2, H3, H4, H5, H6, H7, H8, H9, H10, H11, HS0, HS1, HS2, HS3, HS4, HS5, HS6, HT0, HT1⟩
  isplitl [HS0 HS1 HS2 HS3 HS4 HS5 HS6 Hg HT0 HT1]
  · isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iapply (leaves9 m hO c t)
    rw [← yAt_of m hO c t h2 ((hcond0_2 t).mpr h2)]
    iexact H9
  isplitl [H10]; · iexact H10
  iexact H11

set_option maxHeartbeats 4800000 in
/-- A later point of the batch. -/
theorem soundV_B (hO : Ok m) (c : Dev nD) (t : Fin (cfgM m hO).N) (h0 : t.val ≠ 0) (h2 : t.val < 256) :
    bodyPreV m hO c t ⊢ wp frame (wpE (defs₀ (F := Ideal)) Variants.none c none) Set.univ (bodyAt0 (adm m hO) t) (fun _ => bodyPostV m hO c t) := by
  unfold bodyPreV bodyPostV bodyAt0
  simp only [beforeV_0, beforeV_1, beforeV_2, beforeV_3, beforeV_4, beforeV_5, beforeV_6, beforeV_7, beforeV_8]
  rw [show (datsV m hO 0 c).Φ t.succ = PhiV m hO c (t.val + 1) from rfl,
    show (datsV m hO 0 c).owesAt () t.succ = (datsV m hO 0 c).owesAt () t.castSucc from rfl]
  rw [show (datsV m hO 0 c).Φ t.castSucc = PhiV m hO c t.val from rfl]
  rw [PhiV, if_neg h0, PhiV, if_neg (by omega : ¬t.val + 1 = 0), PhiT0_eq, scrV]
  rw [show (datsV m hO 0 c).leavesExact 0 t = owns (c : Thread nD τ) (ms0_0 m hO t) fullShare ((datsV m hO 0 c).after 0 t) from by
    unfold Dat.leavesExact; rw [liveAt0_0 m hO t]; try rfl, afterV_0]
  rw [show (datsV m hO 0 c).leavesExact 1 t = owns (c : Thread nD τ) (ms0_1 m hO t) fullShare ((datsV m hO 0 c).after 1 t) from by
    unfold Dat.leavesExact; rw [liveAt0_1 m hO t]; try rfl, afterV_1]
  rw [show (datsV m hO 0 c).leavesExact 2 t = owns (c : Thread nD τ) (ms0_2 m hO t) fullShare ((datsV m hO 0 c).after 2 t) from by
    unfold Dat.leavesExact; rw [liveAt0_2 m hO t]; try rfl, afterV_2]
  rw [show (datsV m hO 0 c).leavesExact 3 t = owns (c : Thread nD τ) (ms0_3 m hO t) fullShare ((datsV m hO 0 c).after 3 t) from by
    unfold Dat.leavesExact; rw [liveAt0_3 m hO t]; try rfl, afterV_3]
  rw [show (datsV m hO 0 c).leavesExact 4 t = owns (c : Thread nD τ) (ms0_4 m hO t) fullShare ((datsV m hO 0 c).after 4 t) from by
    unfold Dat.leavesExact; rw [liveAt0_4 m hO t]; try rfl, afterV_4]
  rw [show (datsV m hO 0 c).leavesExact 5 t = owns (c : Thread nD τ) (ms0_5 m hO t) fullShare ((datsV m hO 0 c).after 5 t) from by
    unfold Dat.leavesExact; rw [liveAt0_5 m hO t]; try rfl, afterV_5]
  rw [show (datsV m hO 0 c).leavesExact 6 t = owns (c : Thread nD τ) (ms0_6 m hO t) fullShare ((datsV m hO 0 c).after 6 t) from by
    unfold Dat.leavesExact; rw [liveAt0_6 m hO t]; try rfl, afterV_6]
  rw [show (datsV m hO 0 c).leavesExact 7 t = owns (c : Thread nD τ) (ms0_7 m hO t) fullShare ((datsV m hO 0 c).after 7 t) from by
    unfold Dat.leavesExact; rw [liveAt0_7 m hO t]; try rfl, afterV_7]
  rw [show (datsV m hO 0 c).leavesExact 8 t = owns (c : Thread nD τ) (ms0_8 m hO t) fullShare ((datsV m hO 0 c).after 8 t) from by
    unfold Dat.leavesExact; rw [liveAt0_8 m hO t]; try rfl, afterV_8]
  iintro ⟨⟨⟨⟨HS0, HS1, HS2, HS3, HS4, HS5, HS6⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (valRun_B c (grid0.coords t) _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (ddV m hO c) (tbl m 0) (tbl m 1) (fun h => by have := (hcond0_0 t).mp h; omega) (fun h => by have := (hcond0_1 t).mp h; omega) ((hcond0_2 t).mpr h2) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HT0]; · iexact HT0
  isplitl [HT1]; · iexact HT1
  iintro ⟨H0, H1, H2, H3, H4, H5, H6, H7, H8, H9, H10, H11, HS0, HS1, HS2, HS3, HS4, HS5, HS6, HT0, HT1⟩
  isplitl [HS0 HS1 HS2 HS3 HS4 HS5 HS6 Hg HT0 HT1]
  · isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iapply (leaves9 m hO c t)
    rw [← yAt_of m hO c t h2 ((hcond0_2 t).mpr h2)]
    iexact H9
  isplitl [H10]; · iexact H10
  iexact H11

set_option maxHeartbeats 4800000 in
/-- A point after the batch. -/
theorem soundV_C (hO : Ok m) (c : Dev nD) (t : Fin (cfgM m hO).N) (h1 : 256 ≤ t.val) :
    bodyPreV m hO c t ⊢ wp frame (wpE (defs₀ (F := Ideal)) Variants.none c none) Set.univ (bodyAt0 (adm m hO) t) (fun _ => bodyPostV m hO c t) := by
  have hN : t.val < 323 := lt_of_lt_of_eq t.isLt (show (cfgM m hO).N = 323 from N_0)
  unfold bodyPreV bodyPostV bodyAt0
  simp only [beforeV_0, beforeV_1, beforeV_2, beforeV_3, beforeV_4, beforeV_5, beforeV_6, beforeV_7, beforeV_8]
  rw [show (datsV m hO 0 c).Φ t.succ = PhiV m hO c (t.val + 1) from rfl,
    show (datsV m hO 0 c).owesAt () t.succ = (datsV m hO 0 c).owesAt () t.castSucc from rfl]
  rw [show (datsV m hO 0 c).Φ t.castSucc = PhiV m hO c t.val from rfl]
  simp only [beforeV_9 m hO c t h1]
  rw [PhiV, if_neg (by omega : ¬t.val = 0), PhiV, if_neg (by omega : ¬t.val + 1 = 0)]
  rw [show (datsV m hO 0 c).leavesExact 0 t = owns (c : Thread nD τ) (ms0_0 m hO t) fullShare ((datsV m hO 0 c).after 0 t) from by
    unfold Dat.leavesExact; rw [liveAt0_0 m hO t]; try rfl, afterV_0]
  rw [show (datsV m hO 0 c).leavesExact 1 t = owns (c : Thread nD τ) (ms0_1 m hO t) fullShare ((datsV m hO 0 c).after 1 t) from by
    unfold Dat.leavesExact; rw [liveAt0_1 m hO t]; try rfl, afterV_1]
  rw [show (datsV m hO 0 c).leavesExact 2 t = owns (c : Thread nD τ) (ms0_2 m hO t) fullShare ((datsV m hO 0 c).after 2 t) from by
    unfold Dat.leavesExact; rw [liveAt0_2 m hO t]; try rfl, afterV_2]
  rw [show (datsV m hO 0 c).leavesExact 3 t = owns (c : Thread nD τ) (ms0_3 m hO t) fullShare ((datsV m hO 0 c).after 3 t) from by
    unfold Dat.leavesExact; rw [liveAt0_3 m hO t]; try rfl, afterV_3]
  rw [show (datsV m hO 0 c).leavesExact 4 t = owns (c : Thread nD τ) (ms0_4 m hO t) fullShare ((datsV m hO 0 c).after 4 t) from by
    unfold Dat.leavesExact; rw [liveAt0_4 m hO t]; try rfl, afterV_4]
  rw [show (datsV m hO 0 c).leavesExact 5 t = owns (c : Thread nD τ) (ms0_5 m hO t) fullShare ((datsV m hO 0 c).after 5 t) from by
    unfold Dat.leavesExact; rw [liveAt0_5 m hO t]; try rfl, afterV_5]
  rw [show (datsV m hO 0 c).leavesExact 6 t = owns (c : Thread nD τ) (ms0_6 m hO t) fullShare ((datsV m hO 0 c).after 6 t) from by
    unfold Dat.leavesExact; rw [liveAt0_6 m hO t]; try rfl, afterV_6]
  rw [show (datsV m hO 0 c).leavesExact 7 t = owns (c : Thread nD τ) (ms0_7 m hO t) fullShare ((datsV m hO 0 c).after 7 t) from by
    unfold Dat.leavesExact; rw [liveAt0_7 m hO t]; try rfl, afterV_7]
  rw [show (datsV m hO 0 c).leavesExact 8 t = owns (c : Thread nD τ) (ms0_8 m hO t) fullShare ((datsV m hO 0 c).after 8 t) from by
    unfold Dat.leavesExact; rw [liveAt0_8 m hO t]; try rfl, afterV_8]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (valRun_C c (grid0.coords t) _ _ _ _ _ _ _ _ _ _ _ _ _ _ _ _ _ _ _ _ _ _ _ _ _ _ _ _ _ _ _ _ _ _ _ _ _ _ (iblk m hO c 7 t) (iblk m hO c 8 t) (fun h => by have := (hcond0_0 t).mp h; omega) ((hcond0_1 t).mpr h1) (fun h => by have := (hcond0_2 t).mp h; omega) Set.univ _)
  isplitl [H7]; · iexact H7
  isplitl [H8]; · iexact H8
  isplitl [H10]; · iexists _; iexact H10
  isplitl [H11]; · iexists _; iexact H11
  iintro ⟨H7, H8, H10, H11⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iapply (leaves9 m hO c t)
    iexact H9
  isplitl [H10]; · iexact H10
  iexact H11

/-- The body at any point. -/
theorem soundV (hO : Ok m) (c : Dev nD) (t : Fin (cfgM m hO).N) :
    bodyPreV m hO c t ⊢ wp frame (wpE (defs₀ (F := Ideal)) Variants.none c none) Set.univ (bodyAt0 (adm m hO) t) (fun _ => bodyPostV m hO c t) := by
  by_cases h1 : 256 ≤ t.val
  · exact soundV_C m hO c t h1
  · by_cases h0 : t.val = 0
    · exact soundV_A m hO c t h0
    · exact soundV_B m hO c t h0 (by omega)

/-- The library's body obligation, at every point. -/
theorem bodyV (hO : Ok m) (c : Dev nD) : BodyObligation (datsV m hO 0 c) (defs₀ (F := Ideal)) Variants.none () Set.univ forgetsV := fun t => by
  rw [bigSep_W0, bigSep_W0, show defs₀ (F := Ideal) .tc (cfgM m hO).body ((cfgM m hO).bodyArgs t ((cfgM m hO).slots t)) = bodyAt0 (adm m hO) t from by
    unfold defs₀; rw [Defs.onTc_tc]]
  exact triple_restated (soundV m hO c t) rfl .rfl fun _ => .rfl

theorem PhiV_in (hO : Ok m) (c : Dev nD) : iprop(Pipeline.ΦA spec0 c ∗ Pipeline.ΦT pre0 (tbl m) c) ⊢ (datsV m hO 0 c).Φ 0 := by
  rw [show (datsV m hO 0 c).Φ 0 = PhiV m hO c 0 from rfl, PhiV, if_pos rfl]

theorem PhiV_out (hO : Ok m) (c : Dev nD) : (datsV m hO 0 c).Φ (Fin.last (cfgM m hO).N) ⊢ Pipeline.ΦA spec0 c := by
  rw [show (datsV m hO 0 c).Φ (Fin.last (cfgM m hO).N) = PhiV m hO c (cfgM m hO).N from rfl, PhiV,
    if_neg (by rw [show (cfgM m hO).N = 323 from N_0]; omega), scrV, PhiA0_eq]
  iintro ⟨⟨⟨HS0, ⟨%d, -, HS1⟩, HS2, HS3, HS4, HS5, HS6⟩, Hg⟩, -⟩
  isplitl [HS0 HS1 HS2 HS3 HS4 HS5 HS6]
  · isplitl [HS0]; · iexists _; iexact HS0
    isplitl [HS1]; · iexists _; iexact HS1
    isplitl [HS2]; · iexact HS2
    isplitl [HS3]; · iexact HS3
    isplitl [HS4]; · iexact HS4
    isplitl [HS5]; · iexact HS5
    iexact HS6
  iexact Hg

/-! ## The run -/

set_option backward.isDefEq.respectTransparency.types false in
/-- The launch, with the array of `y` named. -/
theorem run_mainV (hO : Ok m) : θ_run defs (onTc (τ := τ) (main (F := Ideal))) (s₀ m ρ) (Pipeline.RDat.FramePost ((Pipeline.pin pcfgs fun _ => adm m hO) 0) (fun c => (datsV m hO 0 c).toRForget forgetsV) (V m)) :=
  Pipeline.θ_run_frameP_track_forget pcfgs (fun _ => adm m hO) (dats := datsV m hO) (0 : Fin 1) launch0 defs₀ Variants.none forgetsV m ρ main
    (hbody := fun c => (bodyV m hO c).loose) (hshare := fun c => (datsV m hO 0 c).share_full fun _ => rfl)
    (howed := fun _ _ => rfl) (V := V m) (hmain := hmain m Variants.none) (hA := A_eqV m hO) (hpf := V_pre m) (hin := PhiV_in m hO) (hout := PhiV_out m hO)
    (Q' := _) (hQ' := fun _ h => h.1)

/-- The array of `y` after the run. -/
theorem y_array (hO : Ok m) : θ_run defs (onTc (τ := τ) (main (F := Ideal))) ⟨m, fun _ => 0, ρ⟩ (fun r => ∀ c : Dev nD,
      r.2.mem ((c.tc : Thread nD τ).loc main_v38_0) = (datsV m hO 0 c).arrAt 9 (cfgM m hO).N) :=
  (θ_run defs _ _).mono (fun r h c => (Pipeline.Dat.toRForget_arrAt_iff (dat := datsV m hO 0 c) (fgt := forgetsV) (w := 9) rfl _ _).mp ((h c).1 9)) (run_mainV m ρ hO)

end Cert.KernelIdeal.Gen

end
-- ==== Proof.ValArr.lean ====
/- The array of `y` after the kernel's run, read at an index: the plain formula of the item in the launch contents. -/
module

public import proofs.«01_k».proof.Proof.ValFrame
public import Idealize.ShloMosaic.Lib.StableHlo.RunRead
public import Idealize.ShloMosaic.Lib.Pointwise
public import Idealize.ShloMosaic.Lib.ValueIdx
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic Idealize.ShloMosaic.StableHlo
open Idealize.SL Idealize.SL.RA Idealize.SL.Sem
open Idealize.ShloMosaic.Pipeline (Dat Cfg Window)

variable (m : (ℓ : Loc nD τ sig) → Buf (Elt Ideal) ℓ) (ρ : Dev nD → PrngReg)

/-! ## The host lines before the region -/

theorem V_v36 (c : Dev nD) (h : Fin 48) : (V m c main_v36 : FVec Ideal S1x48 .f32) (ix2 0 h) = (m ((c : Thread nD τ).loc main_arg2) : FVec Ideal S48 .f32) (ix1 h) := by
  have e : (V m c main_v36 : FVec Ideal S1x48 .f32) = shapeCast S1x48 (m ((c : Thread nD τ).loc main_arg2) : FVec Ideal S48 .f32) shapeCasts_S48_S1x48 := by
    unfold V
    after_reads_simp
    rfl
  rw [e]
  pointwise

theorem V_v37 (c : Dev nD) (h : Fin 48) : (V m c main_v37 : FVec Ideal S1x48 .f32) (ix2 0 h) = (m ((c : Thread nD τ).loc main_arg3) : FVec Ideal S48 .f32) (ix1 h) := by
  have e : (V m c main_v37 : FVec Ideal S1x48 .f32) = shapeCast S1x48 (m ((c : Thread nD τ).loc main_arg3) : FVec Ideal S48 .f32) shapeCasts_S48_S1x48 := by
    unfold V
    after_reads_simp
    rfl
  rw [e]
  pointwise

theorem V_v35 (c : Dev nD) (h : Fin 48) (p : Fin 64) :
    (V m c main_v35 : FVec Ideal S24x128 .f32) (ix2 (rowOf h) (laneOf h p)) = (m ((c : Thread nD τ).loc main_arg6) : FVec Ideal S48 .f32) (ix1 h) := by
  have e : (V m c main_v35 : FVec Ideal S24x128 .f32) = shapeCast S24x128 (broadcastInDim S24x2x64 ![0, 1, 2] bcast_S24x2x1_S24x2x64_0_1_2
      (transpose S24x2x1 [1, 0, 2] (shapeCast S2x24x1 (m ((c : Thread nD τ).loc main_arg6) : FVec Ideal S48 .f32) shapeCasts_S48_S2x24x1) transposes_S2x24x1_S24x2x1_1_0_2)) shapeCasts_S24x2x64_S24x128 := by
    unfold V
    after_reads_simp
    rfl
  rw [e]
  pointwise [rowOf, laneOf]
  refine congrArg (fun x => (m ((c.tc : Thread nD τ).loc main_arg6) : FVec Ideal S48 .f32) (ix1 x)) (Fin.ext ?_)
  have h48 := h.isLt
  have p64 := p.isLt
  show (if h.val < 24 then (⟨p.val, _⟩ : Fin 128) else ⟨64 + p.val, _⟩).val / 64 * 24 + (if hh : h.val < 24 then (⟨h.val, hh⟩ : Fin 24) else ⟨h.val - 24, _⟩).val = h.val
  split_ifs with q
  · show p.val / 64 * 24 + h.val = h.val
    rw [Nat.div_eq_of_lt p64]; omega
  · show (64 + p.val) / 64 * 24 + (h.val - 24) = h.val
    rw [show (64 + p.val) / 64 = 1 from by omega]; omega

/-! ## The table of step sizes and decays -/

variable (x1 : Vec Ideal S256x48 .bf16) (x2 x3 : Vec Ideal S1x48 .f32)

/-- The step of an item's head: the plain form of softplus. -/
def dl (v : EReal) : EReal := max v 0 + Ideal.log1p (Ideal.exp (0 - (FloatOps.absf (F := Ideal) (φ := .f32) v : EReal)))

theorem dd_lo (b : Fin 256) (h : Fin 48) :
    k0_pay12 (F := Ideal) x1 x2 x3 (ix2 b ⟨h.val, by omega⟩) = dl (x1 (ix2 b h) + x2 (ix2 0 h) : EReal) := by
  pointwise [k0_pay12, dl]

theorem dd_hi (b : Fin 256) (h : Fin 48) :
    k0_pay12 (F := Ideal) x1 x2 x3 (ix2 b ⟨64 + h.val, by omega⟩) = (Ideal.exp ((0 - Ideal.exp (x3 (ix2 0 h))) * dl (x1 (ix2 b h) + x2 (ix2 0 h) : EReal)) : EReal) := by
  pointwise [k0_pay12, dl]
  have h48 := h.isLt
  have ef : ∀ q, (⟨64 + h.val - 48 - 16, q⟩ : Fin 48) = h := fun q => Fin.ext (by show 64 + h.val - 48 - 16 = h.val; omega)
  rw [dif_neg (by omega), dif_neg (by omega), dif_pos (by omega)]
  simp only [ef]

/-! ## The blocks of the inputs -/

theorem index0 : ∀ t : Fin grid0.N, cc0_transform_0 (grid0.coords t) = ![min t.val 255, 0, 0] := by decide +kernel
theorem index4 : ∀ t : Fin grid0.N, cc0_transform_4 (grid0.coords t) = ![min t.val 255, 0, 0] := by decide +kernel
theorem index5 : ∀ t : Fin grid0.N, cc0_transform_5 (grid0.coords t) = ![min t.val 255, 0, 0] := by decide +kernel

theorem blk_0 (hO : Ok m) (c : Dev nD) (t : Fin (cfgM m hO).N) (h : Fin 48) (p : Fin 64) :
    iblk m hO c 0 t (ix3 0 h p) = (m ((c : Thread nD τ).loc main_arg0) : FVec Ideal S256x48x64 .bf16) (ix3 ⟨min t.val 255, by omega⟩ h p) := by
  refine Eq.trans ?_ (congrFun (V_main_arg0 m c) _)
  refine congrArg (V m c main_arg0) ?_
  funext a
  refine Fin.ext ?_
  match a with
  | ⟨0, _⟩ =>
    show cc0_transform_0 (grid0.coords t) 0 * 1 + 1 * 0 = min t.val 255
    rw [index0]; show min t.val 255 * 1 + 1 * 0 = _; omega
  | ⟨1, _⟩ =>
    show cc0_transform_0 (grid0.coords t) 1 * 48 + 1 * h.val = h.val
    rw [index0]; show 0 * 48 + 1 * h.val = _; omega
  | ⟨2, _⟩ =>
    show cc0_transform_0 (grid0.coords t) 2 * 64 + 1 * p.val = p.val
    rw [index0]; show 0 * 64 + 1 * p.val = _; omega

theorem blk_4 (hO : Ok m) (c : Dev nD) (t : Fin (cfgM m hO).N) (k : Fin 128) :
    iblk m hO c 4 t (ix3 0 0 k) = (m ((c : Thread nD τ).loc main_arg4) : FVec Ideal S256x1x128 .bf16) (ix3 ⟨min t.val 255, by omega⟩ 0 k) := by
  refine Eq.trans ?_ (congrFun (V_main_arg4 m c) _)
  refine congrArg (V m c main_arg4) ?_
  funext a
  refine Fin.ext ?_
  match a with
  | ⟨0, _⟩ =>
    show cc0_transform_4 (grid0.coords t) 0 * 1 + 1 * 0 = min t.val 255
    rw [index4]; show min t.val 255 * 1 + 1 * 0 = _; omega
  | ⟨1, _⟩ =>
    show cc0_transform_4 (grid0.coords t) 1 * 1 + 1 * 0 = 0
    rw [index4]; rfl
  | ⟨2, _⟩ =>
    show cc0_transform_4 (grid0.coords t) 2 * 128 + 1 * k.val = k.val
    rw [index4]; show 0 * 128 + 1 * k.val = _; omega

theorem blk_5 (hO : Ok m) (c : Dev nD) (t : Fin (cfgM m hO).N) (k : Fin 128) :
    iblk m hO c 5 t (ix3 0 0 k) = (m ((c : Thread nD τ).loc main_arg5) : FVec Ideal S256x1x128 .bf16) (ix3 ⟨min t.val 255, by omega⟩ 0 k) := by
  refine Eq.trans ?_ (congrFun (V_main_arg5 m c) _)
  refine congrArg (V m c main_arg5) ?_
  funext a
  refine Fin.ext ?_
  match a with
  | ⟨0, _⟩ =>
    show cc0_transform_5 (grid0.coords t) 0 * 1 + 1 * 0 = min t.val 255
    rw [index5]; show min t.val 255 * 1 + 1 * 0 = _; omega
  | ⟨1, _⟩ =>
    show cc0_transform_5 (grid0.coords t) 1 * 1 + 1 * 0 = 0
    rw [index5]; rfl
  | ⟨2, _⟩ =>
    show cc0_transform_5 (grid0.coords t) 2 * 128 + 1 * k.val = k.val
    rw [index5]; show 0 * 128 + 1 * k.val = _; omega

theorem blk_1 (hO : Ok m) (c : Dev nD) (t : Fin (cfgM m hO).N) (b : Fin 256) (h : Fin 48) :
    iblk m hO c 1 t (ix2 b h) = (m ((c : Thread nD τ).loc main_arg1) : FVec Ideal S256x48 .bf16) (ix2 b h) := by
  refine Eq.trans ?_ (congrFun (V_main_arg1 m c) _)
  refine congrArg (V m c main_arg1) ?_
  funext a
  refine Fin.ext ?_
  match a with
  | ⟨0, _⟩ => show 0 * 256 + 1 * b.val = b.val; omega
  | ⟨1, _⟩ => show 0 * 48 + 1 * h.val = h.val; omega

theorem blk_2 (hO : Ok m) (c : Dev nD) (t : Fin (cfgM m hO).N) (h : Fin 48) :
    iblk m hO c 2 t (ix2 0 h) = (m ((c : Thread nD τ).loc main_arg2) : FVec Ideal S48 .f32) (ix1 h) := by
  refine Eq.trans ?_ (V_v36 m c h)
  refine congrArg (V m c main_v36) ?_
  funext a
  refine Fin.ext ?_
  match a with
  | ⟨0, _⟩ => rfl
  | ⟨1, _⟩ => show 0 * 48 + 1 * h.val = h.val; omega

theorem blk_3 (hO : Ok m) (c : Dev nD) (t : Fin (cfgM m hO).N) (h : Fin 48) :
    iblk m hO c 3 t (ix2 0 h) = (m ((c : Thread nD τ).loc main_arg3) : FVec Ideal S48 .f32) (ix1 h) := by
  refine Eq.trans ?_ (V_v37 m c h)
  refine congrArg (V m c main_v37) ?_
  funext a
  refine Fin.ext ?_
  match a with
  | ⟨0, _⟩ => rfl
  | ⟨1, _⟩ => show 0 * 48 + 1 * h.val = h.val; omega

theorem blk_6 (hO : Ok m) (c : Dev nD) (t : Fin (cfgM m hO).N) (h : Fin 48) (p : Fin 64) :
    iblk m hO c 6 t (ix2 (rowOf h) (laneOf h p)) = (m ((c : Thread nD τ).loc main_arg6) : FVec Ideal S48 .f32) (ix1 h) := by
  refine Eq.trans ?_ (V_v35 m c h p)
  refine congrArg (V m c main_v35) ?_
  funext a
  refine Fin.ext ?_
  match a with
  | ⟨0, _⟩ => show 0 * 24 + 1 * (rowOf h).val = (rowOf h).val; omega
  | ⟨1, _⟩ => show 0 * 128 + 1 * (laneOf h p).val = (laneOf h p).val; omega

/-- The slot an item reads. -/
def slotW (c : Dev nD) (t : Fin 256) : BitVec 32 := (m ((c : Thread nD τ).loc main_arg9) : IVec S256 32) (ix1 t)

/-- Where the precondition holds, an item's slot is one of the 323. -/
theorem slot_lt (h : (Cert.Pre_slots_ok.fn (F := Ideal) (m (((0 : Dev nD).tc : Thread nD τ).loc main_arg0)) (m (((0 : Dev nD).tc : Thread nD τ).loc main_arg1))
      (m (((0 : Dev nD).tc : Thread nD τ).loc main_arg2)) (m (((0 : Dev nD).tc : Thread nD τ).loc main_arg3)) (m (((0 : Dev nD).tc : Thread nD τ).loc main_arg4))
      (m (((0 : Dev nD).tc : Thread nD τ).loc main_arg5)) (m (((0 : Dev nD).tc : Thread nD τ).loc main_arg6)) (m (((0 : Dev nD).tc : Thread nD τ).loc main_arg7))
      (m (((0 : Dev nD).tc : Thread nD τ).loc main_arg8)) (m (((0 : Dev nD).tc : Thread nD τ).loc main_arg9)) (m (((0 : Dev nD).tc : Thread nD τ).loc main_arg10))) = fun _ => 1#1)
    (t : Fin 256) : (slotW m 0 t).toNat < 323 := (slots_of_pre m h (ix1 t)).1

theorem off1 : ∀ t : Fin grid0.N, k0_off1 (grid0.coords t) = ![t.val] := by decide +kernel

theorem word_at (t : Fin grid0.N) (t' : Fin 256) (ht : t'.val = t.val) :
    (tbl m).at 0 (Rect.unit (s := S323) (k0_off1 (grid0.coords t)) S1.size (k0_off1_inb (grid0.coords t))) numel1_S1 = slotW m 0 t' := by
  refine Eq.trans ?_ ((congrFun (V_src m 0) _).trans (concat_lo (m (((0 : Dev nD) : Thread nD τ).loc main_arg9)) (restV m 0) t'))
  refine congrArg (V m 0 main_v30) ?_
  funext a
  refine Fin.ext ?_
  match a with
  | ⟨0, _⟩ =>
    show k0_off1 (grid0.coords t) 0 + 1 * 0 = t'.val
    rw [off1, ht]; show t.val + 1 * 0 = t.val; omega

theorem index7 (t : Fin grid0.N) (t' : Fin 256) (ht : t'.val = t.val) :
    cc0_transform_7 (F := Ideal) k0_off1_inb numel1_S1 (tbl m) (grid0.coords t) = ![(slotW m 0 t').toNat, 0, 0, 0] := by
  rw [← word_at m t t' ht]; rfl

theorem index8 (t : Fin grid0.N) (t' : Fin 256) (ht : t'.val = t.val) :
    cc0_transform_8 (F := Ideal) k0_off1_inb numel1_S1 (tbl m) (grid0.coords t) = ![(slotW m 0 t').toNat, 0, 0] := by
  rw [← word_at m t t' ht]; rfl

set_option maxHeartbeats 4000000 in
theorem blk_7 (hO : Ok m) (c : Dev nD) (t : Fin (cfgM m hO).N) (t' : Fin 256) (ht : t'.val = t.val) (r : Fin 323) (hr : (slotW m 0 t').toNat = r.val)
    (h : Fin 48) (p : Fin 64) (k : Fin 128) :
    iblk m hO c 7 t (ix4 0 h p k) = (m ((c : Thread nD τ).loc main_arg7) : FVec Ideal S323x48x64x128 .fp8e4m3) (ix4 r h p k) := by
  refine Eq.trans ?_ (congrFun (V_main_arg7 m c) _)
  refine congrArg (V m c main_arg7) ?_
  funext a
  refine Fin.ext ?_
  have e := index7 m t t' ht
  match a with
  | ⟨0, _⟩ =>
    refine (congrArg (fun n => n * 1 + 1 * 0) (congrFun e 0)).trans ?_
    show (slotW m 0 t').toNat * 1 + 1 * 0 = r.val; omega
  | ⟨1, _⟩ =>
    refine (congrArg (fun n => n * 48 + 1 * h.val) (congrFun e 1)).trans ?_
    show 0 * 48 + 1 * h.val = h.val; omega
  | ⟨2, _⟩ =>
    refine (congrArg (fun n => n * 64 + 1 * p.val) (congrFun e 2)).trans ?_
    show 0 * 64 + 1 * p.val = p.val; omega
  | ⟨3, _⟩ =>
    refine (congrArg (fun n => n * 128 + 1 * k.val) (congrFun e 3)).trans ?_
    show 0 * 128 + 1 * k.val = k.val; omega

set_option maxHeartbeats 4000000 in
theorem blk_8 (hO : Ok m) (c : Dev nD) (t : Fin (cfgM m hO).N) (t' : Fin 256) (ht : t'.val = t.val) (r : Fin 323) (hr : (slotW m 0 t').toNat = r.val)
    (h : Fin 48) (p : Fin 64) :
    iblk m hO c 8 t (ix3 0 h p) = (m ((c : Thread nD τ).loc main_arg8) : FVec Ideal S323x48x64 .f32) (ix3 r h p) := by
  refine Eq.trans ?_ (congrFun (V_main_arg8 m c) _)
  refine congrArg (V m c main_arg8) ?_
  funext a
  refine Fin.ext ?_
  have e := index8 m t t' ht
  match a with
  | ⟨0, _⟩ =>
    refine (congrArg (fun n => n * 1 + 1 * 0) (congrFun e 0)).trans ?_
    show (slotW m 0 t').toNat * 1 + 1 * 0 = r.val; omega
  | ⟨1, _⟩ =>
    refine (congrArg (fun n => n * 48 + 1 * h.val) (congrFun e 1)).trans ?_
    show 0 * 48 + 1 * h.val = h.val; omega
  | ⟨2, _⟩ =>
    refine (congrArg (fun n => n * 64 + 1 * p.val) (congrFun e 2)).trans ?_
    show 0 * 64 + 1 * p.val = p.val; omega

/-! ## The array -/

/-- The point of an item. -/
def ptB (hO : Ok m) (b : Fin 256) : Fin (cfgM m hO).N := ⟨b.val, by have := b.isLt; rw [show (cfgM m hO).N = 323 from N_0]; omega⟩

theorem arr_y (hO : Ok m) (c : Dev nD) (b : Fin 256) (h : Fin 48) (p : Fin 64) :
    ((datsV m hO 0 c).arrAt 9 (cfgM m hO).N : FVec Ideal S256x48x64 .bf16) (ix3 b h p) = yAt m hO c (ptB m hO b) (ix3 0 h p) := by
  have hN : (cfgM m hO).N = 323 := N_0
  have hall : (datsV m hO 0 c).arrAt 9 (cfgM m hO).N = (fun i : S256x48x64.Idx => yAt m hO c (ptB m hO (i 0)) (ix3 0 (i 1) (i 2))) := by
    refine (datsV m hO 0 c).arrAt_eq_of_emb 9 _ (fun t hf (y : S1x48x64.Idx) => ?_) (fun (i : S256x48x64.Idx) => ?_)
    · have ht := t.isLt
      refine Eq.trans (show _ = (datsV m hO 0 c).after 9 t y from rfl) ?_
      rw [afterV_9]
      have e0 : ((((cfgM m hO).win 9).blk t).view.emb y : S256x48x64.Idx) = ix3 ⟨min t.val 255, by omega⟩ (y 1) (y 2) := by
        funext a
        refine Fin.ext ?_
        have y0 : (y 0).val < 1 := (y 0).isLt
        match a with
        | ⟨0, _⟩ =>
          show cc0_transform_9 (grid0.coords t) 0 * 1 + 1 * (y 0).val = min t.val 255
          rw [index9]; show min t.val 255 * 1 + 1 * (y 0).val = _; omega
        | ⟨1, _⟩ =>
          show cc0_transform_9 (grid0.coords t) 1 * 48 + 1 * (y 1).val = (y 1).val
          rw [index9]; show 0 * 48 + 1 * (y 1).val = _; omega
        | ⟨2, _⟩ =>
          show cc0_transform_9 (grid0.coords t) 2 * 64 + 1 * (y 2).val = (y 2).val
          rw [index9]; show 0 * 64 + 1 * (y 2).val = _; omega
      have e1 : (y : S1x48x64.Idx) = ix3 0 (y 1) (y 2) := by
        funext a
        refine Fin.ext ?_
        have y0 : (y 0).val < 1 := (y 0).isLt
        match a with
        | ⟨0, _⟩ => show (y 0).val = 0; omega
        | ⟨1, _⟩ => rfl
        | ⟨2, _⟩ => rfl
      refine Eq.trans ?_ (congrArg (fun i : S256x48x64.Idx => yAt m hO c (ptB m hO (i 0)) (ix3 0 (i 1) (i 2))) e0.symm)
      exact congrArg (yAt m hO c (ptY m hO t)) e1
    · have hi0 : (i 0).val < 256 := (i 0).isLt
      have key : ∀ tt : Fin (cfgM m hO).N, min tt.val 255 = (i 0).val → i ∈ (((cfgM m hO).win 9).blk tt).view.set := by
        intro tt htt
        refine (congrArg (· ∈ _) ?_).mp (View.emb_mem_set _ (ix3 0 (i 1) (i 2) : S1x48x64.Idx))
        funext a
        refine Fin.ext ?_
        match a with
        | ⟨0, _⟩ =>
          show cc0_transform_9 (grid0.coords tt) 0 * 1 + 1 * 0 = (i 0).val
          rw [index9]
          show min tt.val 255 * 1 + 1 * 0 = (i 0).val
          omega
        | ⟨1, _⟩ =>
          show cc0_transform_9 (grid0.coords tt) 1 * 48 + 1 * (i 1).val = (i 1).val
          rw [index9]; show 0 * 48 + 1 * (i 1).val = _; omega
        | ⟨2, _⟩ =>
          show cc0_transform_9 (grid0.coords tt) 2 * 64 + 1 * (i 2).val = (i 2).val
          rw [index9]; show 0 * 64 + 1 * (i 2).val = _; omega
      by_cases hb : (i 0).val < 255
      · refine ⟨⟨(i 0).val, by rw [hN]; omega⟩, ?_, key _ (by show min (i 0).val 255 = (i 0).val; omega)⟩
        rw [flush9]; simp [hb]
      · refine ⟨⟨322, by rw [hN]; omega⟩, ?_, key _ (by show min 322 255 = (i 0).val; omega)⟩
        rw [flush9]; simp
  exact congrFun hall (ix3 b h p)

/-- The plain formula of an item: the decayed state against the output vector, the input's rank-one term and the skip. -/
def yK (a0 : S256x48x64.Idx → EReal) (a1 : S256x48.Idx → EReal) (a2 a3 : S48.Idx → EReal) (a4 a5 : S256x1x128.Idx → EReal)
    (a6 : S48.Idx → EReal) (a7 : S323x48x64x128.Idx → EReal) (a8 : S323x48x64.Idx → EReal) (b : Fin 256) (r : Fin 323) (h : Fin 48) (p : Fin 64) : EReal :=
  Ideal.exp ((0 - Ideal.exp (a3 (ix1 h))) * dl (a1 (ix2 b h) + a2 (ix1 h))) * a8 (ix3 r h p) * (∑ k : Fin 128, a5 (ix3 b 0 k) * a7 (ix4 r h p k))
    + dl (a1 (ix2 b h) + a2 (ix1 h)) * a0 (ix3 b h p) * (∑ k : Fin 128, a4 (ix3 b 0 k) * a5 (ix3 b 0 k))
    + a6 (ix1 h) * a0 (ix3 b h p)

/-- The plain formula of a block, from what its arguments hold. -/
theorem yV_congr (x0 : Vec Ideal S1x48x64 .bf16) (x4 x5 : Vec Ideal S1x1x128 .bf16) (x6 : Vec Ideal S24x128 .f32)
    (x7 : Vec Ideal S1x48x64x128 .fp8e4m3) (x8 : Vec Ideal S1x48x64 .f32) (row : Fin 128 → EReal) (h : Fin 48) (p : Fin 64)
    {v0 v6 v8 l u : EReal} {v4 v5 v7 : Fin 128 → EReal} (e0 : x0 (ix3 0 h p) = v0) (e4 : ∀ k, x4 (ix3 0 0 k) = v4 k) (e5 : ∀ k, x5 (ix3 0 0 k) = v5 k)
    (e6 : x6 (ix2 (rowOf h) (laneOf h p)) = v6) (e7 : ∀ k, x7 (ix4 0 h p k) = v7 k) (e8 : x8 (ix3 0 h p) = v8)
    (el : row ⟨h.val, by omega⟩ = l) (eu : row ⟨64 + h.val, by omega⟩ = u) :
    yV x0 x4 x5 x6 x7 x8 row (ix3 0 h p) = (u * v8 * (∑ k : Fin 128, v5 k * v7 k) + l * v0 * (∑ k : Fin 128, v4 k * v5 k) + v6 * v0 : EReal) := by
  subst e0 e6 e8 el eu
  obtain rfl : (fun k => x4 (ix3 0 0 k)) = v4 := funext e4
  obtain rfl : (fun k => x5 (ix3 0 0 k)) = v5 := funext e5
  obtain rfl : (fun k => x7 (ix4 0 h p k)) = v7 := funext e7
  rfl

/-- An item's result, in the launch contents. -/
theorem yAt_apply (hO : Ok m) (c : Dev nD) (b : Fin 256) (r : Fin 323) (hr : (slotW m 0 b).toNat = r.val) (h : Fin 48) (p : Fin 64) :
    yAt m hO c (ptB m hO b) (ix3 0 h p)
      = yK (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) b r h p := by
  have hb := b.isLt
  have eb : (⟨min (ptB m hO b).val 255, by omega⟩ : Fin 256) = b := Fin.ext (by show min b.val 255 = b.val; omega)
  have e8 := blk_8 m hO c (ptB m hO b) b rfl r hr h p
  have e7 := blk_7 m hO c (ptB m hO b) b rfl r hr h p
  have e6 := blk_6 m hO c (ptB m hO b) h p
  have e0 := blk_0 m hO c (ptB m hO b) h p
  have e4 := blk_4 m hO c (ptB m hO b)
  have e5 := blk_5 m hO c (ptB m hO b)
  rw [eb] at e0
  simp only [eb] at e4 e5
  have el := dd_lo (iblk m hO c 1 (pt0 m hO)) (iblk m hO c 2 (pt0 m hO)) (iblk m hO c 3 (pt0 m hO)) b h
  have eh := dd_hi (iblk m hO c 1 (pt0 m hO)) (iblk m hO c 2 (pt0 m hO)) (iblk m hO c 3 (pt0 m hO)) b h
  rw [blk_1, blk_2] at el eh
  rw [blk_3] at eh
  have hd : ∀ l, ddV m hO c (ix2 ⟨min (ptB m hO b).val 255, by omega⟩ l) = ddV m hO c (ix2 b l) := fun l => by rw [eb]
  exact yV_congr _ _ _ _ _ _ _ h p e0 e4 e5 e6 e7 e8 ((hd _).trans el) ((hd _).trans eh)

end Cert.KernelIdeal.Gen
-- ==== Proof.RefRun.lean ====
/- What the reference program leaves in its first result: the term its host lines compose, and the same read at an index
   over the extended reals. -/
module

public import proofs.«01_k».proof.Proof.Gen.ReferenceIdeal.Frame
public import Idealize.ShloMosaic.Lib.StableHlo.RunRead
public import Idealize.ShloMosaic.PureOps.Ideal
public import Idealize.ShloMosaic.Lib.Claim
public import Idealize.ShloMosaic.Lib.Pointwise
public import Idealize.ShloMosaic.Lib.ValueIdx
public import Idealize.ShloMosaic.Lib.Pipeline.ValueKit

@[expose] public section

set_option maxRecDepth 16384

noncomputable section

namespace Cert.ReferenceIdeal.Gen

open Idealize.ShloMosaic Idealize.ShloMosaic.TcCoe Idealize.ShloMosaic.StableHlo Idealize.ShloMosaic.Tactic

/-- The slots the reference reads: the item's words, a negative one taken from the end. -/
def srcIdx (v0 : IVec S256 32) : IVec S256x1 32 :=
  broadcastInDim S256x1 ![0] bcast_S256_S256x1_0
    (select (cmpi .slt v0 (broadcastInDim S256 ![] bcast_S_S256 (constantI S_ 32 0#32)))
      (addi v0 (broadcastInDim S256 ![] bcast_S_S256 (constantI S_ 32 323#32))) v0)

/-- The gathered codes. -/
def codesG (a7 : FVec Ideal S323x48x64x128 .fp8e4m3) (v0 : IVec S256 32) : FVec Ideal S256x48x64x128 .fp8e4m3 :=
  Host.gather gather_S323x48x64x128_S256x1_S256x48x64x128_123_0_n_n_0_1_14864128 a7 (srcIdx v0)

/-- The gathered scales. -/
def scalesG (a8 : FVec Ideal S323x48x64 .f32) (v0 : IVec S256 32) : FVec Ideal S256x48x64 .f32 :=
  Host.gather gather_S323x48x64_S256x1_S256x48x64_12_0_n_n_0_1_14864 a8 (srcIdx v0)

/-- The step before its softplus. -/
def dtv (a1 : FVec Ideal S256x48 .bf16) (a2 : FVec Ideal S48 .f32) : FVec Ideal S256x48 .f32 :=
  addf (extf .f32 a1 bitsLt_bf16_f32) (broadcastInDim S256x48 ![0, 1] bcast_S1x48_S256x48_0_1 (broadcastInDim S1x48 ![1] bcast_S48_S1x48_1 a2))

/-- The softplus, as the host computes it. -/
def spv (v : FVec Ideal S256x48 .f32) : FVec Ideal S256x48 .f32 :=
  select (cmpf .une (subf v (broadcastInDim S256x48 ![] bcast_S_S256x48 (constant S_ .f32 0#32))) (subf v (broadcastInDim S256x48 ![] bcast_S_S256x48 (constant S_ .f32 0#32))))
    (addf v (broadcastInDim S256x48 ![] bcast_S_S256x48 (constant S_ .f32 0#32)))
    (addf (maximumf v (broadcastInDim S256x48 ![] bcast_S_S256x48 (constant S_ .f32 0#32)))
      (Host.log1p (Host.exp (Host.negf (Host.absf (subf v (broadcastInDim S256x48 ![] bcast_S_S256x48 (constant S_ .f32 0#32))))))))

/-- The new state before it is quantised. -/
def hv (codes : FVec Ideal S256x48x64x128 .f32) (sc : FVec Ideal S256x48x64 .f32) (a0 : FVec Ideal S256x48x64 .bf16)
    (a3 : FVec Ideal S48 .f32) (a4 : FVec Ideal S256x1x128 .bf16) (sp : FVec Ideal S256x48 .f32) : FVec Ideal S256x48x64x128 .f32 :=
  addf
    (mulf
      (broadcastInDim S256x48x64x128 ![0, 1, 2, 3] bcast_S256x48x1x1_S256x48x64x128_0_1_2_3
        (broadcastInDim S256x48x1x1 ![0, 1] bcast_S256x48_S256x48x1x1_0_1
          (Host.exp (mulf (broadcastInDim S256x48 ![0, 1] bcast_S1x48_S256x48_0_1 (Host.negf (broadcastInDim S1x48 ![1] bcast_S48_S1x48_1 (Host.exp a3)))) sp))))
      (mulf codes (broadcastInDim S256x48x64x128 ![0, 1, 2, 3] bcast_S256x48x64x1_S256x48x64x128_0_1_2_3
        (broadcastInDim S256x48x64x1 ![0, 1, 2] bcast_S256x48x64_S256x48x64x1_0_1_2 sc))))
    (mulf
      (broadcastInDim S256x48x64x128 ![0, 1, 2, 3] bcast_S256x48x64x1_S256x48x64x128_0_1_2_3
        (broadcastInDim S256x48x64x1 ![0, 1, 2] bcast_S256x48x64_S256x48x64x1_0_1_2
          (mulf (broadcastInDim S256x48x64 ![0, 1, 2] bcast_S256x48x1_S256x48x64_0_1_2 (broadcastInDim S256x48x1 ![0, 1] bcast_S256x48_S256x48x1_0_1 sp))
            (extf .f32 a0 bitsLt_bf16_f32))))
      (broadcastInDim S256x48x64x128 ![0, 1, 2, 3] bcast_S256x48x1x128_S256x48x64x128_0_1_2_3
        (broadcastInDim S256x48x1x128 ![0, 1, 3] bcast_S256x48x128_S256x48x1x128_0_1_3
          (shapeCast S256x48x128 (broadcastInDim S256x1x48x128 ![0, 1, 3] bcast_S256x1x128_S256x1x48x128_0_1_3 (extf .f32 a4 bitsLt_bf16_f32))
            shapeCasts_S256x1x48x128_S256x48x128))))

/-- The output: the new state against the output vector, and the skip term. -/
def yv (h : FVec Ideal S256x48x64x128 .f32) (a0 : FVec Ideal S256x48x64 .bf16) (a5 : FVec Ideal S256x1x128 .bf16)
    (a6 : FVec Ideal S48 .f32) : FVec Ideal S256x48x64 .bf16 :=
  truncf .bf16
    (addf
      (Host.reduceAdd
        (mulf h
          (broadcastInDim S256x48x64x128 ![0, 1, 2, 3] bcast_S256x48x1x128_S256x48x64x128_0_1_2_3
            (broadcastInDim S256x48x1x128 ![0, 1, 3] bcast_S256x48x128_S256x48x1x128_0_1_3
              (shapeCast S256x48x128 (broadcastInDim S256x1x48x128 ![0, 1, 3] bcast_S256x1x128_S256x1x48x128_0_1_3 (extf .f32 a5 bitsLt_bf16_f32))
                shapeCasts_S256x1x48x128_S256x48x128))))
        (constant S_ .f32 0#32) reducesTo_S256x48x64x128_S256x48x64_d3 h_S_)
      (mulf (broadcastInDim S256x48x64 ![0, 1, 2] bcast_S1x48x1_S256x48x64_0_1_2 (broadcastInDim S1x48x1 ![1] bcast_S48_S1x48x1_1 a6))
        (extf .f32 a0 bitsLt_bf16_f32)))
    bitsLt_bf16_f32

/-- The lines after the region, read at the first result. -/
theorem line_y (V : Valuation τ sig (Elt Ideal)) :
    after (List.flatten [hostOps1, hostOps1_1, hostOps1_2, hostOps1_3, hostOps1_4, hostOps1_5, hostOps1_6, hostOps1_7, hostOps1_8]) V (Proc.devRef .tc main_v92)
      = yv (hv (V (Proc.devRef .tc main_v7)) (scalesG (V (Proc.devRef .tc main_arg8)) (V (Proc.devRef .tc main_arg9))) (V (Proc.devRef .tc main_arg0)) (V (Proc.devRef .tc main_arg3)) (V (Proc.devRef .tc main_arg4))
            (spv (dtv (V (Proc.devRef .tc main_arg1)) (V (Proc.devRef .tc main_arg2)))))
          (V (Proc.devRef .tc main_arg0)) (V (Proc.devRef .tc main_arg5)) (V (Proc.devRef .tc main_arg6)) := by
  after_reads_simp
  rfl

/-- The lines before it, read at the gathered codes. -/
theorem line_codes (V : Valuation τ sig (Elt Ideal)) :
    after (List.flatten [hostOps0]) V (Proc.devRef .tc main_v6)
      = codesG (V (Proc.devRef .tc main_arg7)) (V (Proc.devRef .tc main_arg9)) := by
  after_reads_simp
  rfl

/-- A slot in range is the row read. -/
theorem srcIdx_apply (v0 : IVec S256 32) (b : Fin 256) (h : (v0 (ix1 b)).toNat < 323) : srcIdx v0 (ix2 b 0) = v0 (ix1 b) := by
  pointwise [srcIdx]
  have e : IntOp.cmpi CmpIPredicate.slt (v0 (ix1 b)) 0#32 = 0#1 := by
    have : ((v0 (ix1 b)).slt 0#32) = false := by
      simp only [BitVec.slt, BitVec.toInt, BitVec.toNat_ofNat, decide_eq_false_iff_not]
      omega
    simp only [IntOp.cmpi, this]
    rfl
  rw [e]
  rfl

theorem clamp_slot (w : BitVec 32) (r : Fin 323) (h : w.toNat = r.val) : min w.toInt.toNat 322 = r.val := by
  have := r.isLt
  simp only [BitVec.toInt]
  rw [if_pos (by omega)]
  omega

theorem codesG_apply (a7 : FVec Ideal S323x48x64x128 .fp8e4m3) (v0 : IVec S256 32) (b : Fin 256) (r : Fin 323)
    (h : (v0 (ix1 b)).toNat = r.val) (hh : Fin 48) (p : Fin 64) (k : Fin 128) :
    codesG a7 v0 (ix4 b hh p k) = a7 (ix4 r hh p k) := by
  have e0 : gather_S323x48x64x128_S256x1_S256x48x64x128_123_0_n_n_0_1_14864128.siIdx (ix4 b hh p k) ⟨0, by decide⟩ = ix2 b 0 := by
    funext x; refine Fin.ext ?_
    match x with
    | ⟨0, _⟩ => rfl
    | ⟨1, _⟩ => rfl
  unfold codesG Host.gather
  congr 1
  funext a
  refine Fin.ext ?_
  match a with
  | ⟨1, _⟩ => show 0 + 0 + hh.val = hh.val; omega
  | ⟨2, _⟩ => show 0 + 0 + p.val = p.val; omega
  | ⟨3, _⟩ => show 0 + 0 + k.val = k.val; omega
  | ⟨0, _⟩ =>
    show min (srcIdx v0 (gather_S323x48x64x128_S256x1_S256x48x64x128_123_0_n_n_0_1_14864128.siIdx (ix4 b hh p k) ⟨0, _⟩)).toInt.toNat 322 + 0 + 0 = r.val
    rw [e0, srcIdx_apply v0 b (by rw [h]; exact r.isLt), clamp_slot _ r h]
    rfl

theorem scalesG_apply (a8 : FVec Ideal S323x48x64 .f32) (v0 : IVec S256 32) (b : Fin 256) (r : Fin 323)
    (h : (v0 (ix1 b)).toNat = r.val) (hh : Fin 48) (p : Fin 64) :
    scalesG a8 v0 (ix3 b hh p) = a8 (ix3 r hh p) := by
  have e0 : gather_S323x48x64_S256x1_S256x48x64_12_0_n_n_0_1_14864.siIdx (ix3 b hh p) ⟨0, by decide⟩ = ix2 b 0 := by
    funext x; refine Fin.ext ?_
    match x with
    | ⟨0, _⟩ => rfl
    | ⟨1, _⟩ => rfl
  unfold scalesG Host.gather
  congr 1
  funext a
  refine Fin.ext ?_
  match a with
  | ⟨1, _⟩ => show 0 + 0 + hh.val = hh.val; omega
  | ⟨2, _⟩ => show 0 + 0 + p.val = p.val; omega
  | ⟨0, _⟩ =>
    show min (srcIdx v0 (gather_S323x48x64_S256x1_S256x48x64_12_0_n_n_0_1_14864.siIdx (ix3 b hh p) ⟨0, _⟩)).toInt.toNat 322 + 0 + 0 = r.val
    rw [e0, srcIdx_apply v0 b (by rw [h]; exact r.isLt), clamp_slot _ r h]
    rfl

theorem yv_apply (h : FVec Ideal S256x48x64x128 .f32) (a0 : FVec Ideal S256x48x64 .bf16) (a5 : FVec Ideal S256x1x128 .bf16)
    (a6 : FVec Ideal S48 .f32) (b : Fin 256) (hh : Fin 48) (p : Fin 64) :
    yv h a0 a5 a6 (ix3 b hh p) = ((∑ k : Fin 128, (h (ix4 b hh p k) : EReal) * a5 (ix3 b 0 k)) + a6 (ix1 hh) * a0 (ix3 b hh p) : EReal) := by
  pointwise [yv]

theorem hv_apply (codes : FVec Ideal S256x48x64x128 .f32) (sc : FVec Ideal S256x48x64 .f32) (a0 : FVec Ideal S256x48x64 .bf16)
    (a3 : FVec Ideal S48 .f32) (a4 : FVec Ideal S256x1x128 .bf16) (sp : FVec Ideal S256x48 .f32) (b : Fin 256) (hh : Fin 48) (p : Fin 64) (k : Fin 128) :
    hv codes sc a0 a3 a4 sp (ix4 b hh p k)
      = (Ideal.exp (-(Ideal.exp (a3 (ix1 hh))) * sp (ix2 b hh)) * (codes (ix4 b hh p k) * sc (ix3 b hh p))
        + sp (ix2 b hh) * a0 (ix3 b hh p) * a4 (ix3 b 0 k) : EReal) := by
  pointwise [hv]

theorem spv_apply (v : FVec Ideal S256x48 .f32) (b : Fin 256) (hh : Fin 48) :
    spv v (ix2 b hh) = (max (v (ix2 b hh)) 0 + Ideal.log1p (Ideal.exp (-(FloatOps.absf (φ := .f32) (v (ix2 b hh)) : EReal))) : EReal) := by
  pointwise [spv]
  rw [if_neg (fun h => h rfl)]

theorem dtv_apply (a1 : FVec Ideal S256x48 .bf16) (a2 : FVec Ideal S48 .f32) (b : Fin 256) (hh : Fin 48) :
    dtv a1 a2 (ix2 b hh) = (a1 (ix2 b hh) + a2 (ix1 hh) : EReal) := by
  pointwise [dtv]

variable (m : (ℓ : Loc nD τ sig) → Buf (Elt Ideal) ℓ) (ρ : Dev nD → PrngReg)

/-- What the region leaves in the widened codes. -/
theorem wide (c : Dev nD) :
    (dats m 0 c).arrAt 1 cfg0.N = (V m c main_v6 : FVec Ideal S256x48x64x128 .fp8e4m3) := by
  refine (dats m 0 c).arrAt_eq_of_covers 1 _ (by decide +kernel) fun t hf y => ?_
  obtain rfl : t = t0_0 := fin_N0 t
  blk_simp
  rw [after0_1]
  unfold out0_1
  rw [View.canon_unit_zero (by funext a; match a with | ⟨0, _⟩ => rfl | ⟨1, _⟩ => rfl | ⟨2, _⟩ => rfl | ⟨3, _⟩ => rfl)]
  have e1 : ∀ v : Vec Ideal S256x48x64x128 .fp8e4m3, ∀ y, k0_pay1 (F := Ideal) v y = v y := by
    intro v y
    idx_vars y
    pointwise [k0_pay1]
  refine (e1 _ y).trans (congrArg (V m c main_v6) ?_)
  funext a
  refine Fin.ext ?_
  match a with
  | ⟨0, _⟩ => show 0 * 256 + 1 * (0 + 1 * (y 0).val) = 0 * 256 + 1 * (y 0).val; omega
  | ⟨1, _⟩ => show 0 * 48 + 1 * (0 + 1 * (y 1).val) = 0 * 48 + 1 * (y 1).val; omega
  | ⟨2, _⟩ => show 0 * 64 + 1 * (0 + 1 * (y 2).val) = 0 * 64 + 1 * (y 2).val; omega
  | ⟨3, _⟩ => show 0 * 128 + 1 * (0 + 1 * (y 3).val) = 0 * 128 + 1 * (y 3).val; omega

/-- The reference's first result after its run. -/
theorem run_y : θ_run defs (onTc (τ := τ) (main (F := Ideal))) ⟨m, fun _ => 0, ρ⟩ (fun r => ∀ c : Dev nD,
    r.2.mem ((c.tc : Thread nD τ).loc main_v92)
      = yv (hv (codesG (m ((c.tc : Thread nD τ).loc main_arg7)) (m ((c.tc : Thread nD τ).loc main_arg9)))
            (scalesG (m ((c.tc : Thread nD τ).loc main_arg8)) (m ((c.tc : Thread nD τ).loc main_arg9)))
            (m ((c.tc : Thread nD τ).loc main_arg0)) (m ((c.tc : Thread nD τ).loc main_arg3)) (m ((c.tc : Thread nD τ).loc main_arg4))
            (spv (dtv (m ((c.tc : Thread nD τ).loc main_arg1)) (m ((c.tc : Thread nD τ).loc main_arg2)))))
          (m ((c.tc : Thread nD τ).loc main_arg0)) (m ((c.tc : Thread nD τ).loc main_arg5)) (m ((c.tc : Thread nD τ).loc main_arg6))) := by
  refine (θ_run defs _ _).mono (fun r h c => ((h c).2 main_v92 (by decide)).trans ?_) (run_main m ρ)
  unfold Pipeline.afterTail₀
  rw [line_y]
  have e9 : Pipeline.withArrays (cfgs 0).spec c (V0 m c) (fun w => (dats m 0 c).arrAt w (cfgs 0).N) (Proc.tc.devRef main_v7)
      = codesG (m ((c.tc : Thread nD τ).loc main_arg7)) (m ((c.tc : Thread nD τ).loc main_arg9)) :=
    (Pipeline.withArrays_arr (cfgs 0).spec (by decide) c _ _ 1).trans ((wide m c).trans (line_codes _))
  rw [e9]
  simp only [Pipeline.withArrays_of_ne (cfgs 0).spec c (V0 m c) _ main_arg0 (by decide), Pipeline.withArrays_of_ne (cfgs 0).spec c (V0 m c) _ main_arg1 (by decide),
    Pipeline.withArrays_of_ne (cfgs 0).spec c (V0 m c) _ main_arg2 (by decide), Pipeline.withArrays_of_ne (cfgs 0).spec c (V0 m c) _ main_arg3 (by decide),
    Pipeline.withArrays_of_ne (cfgs 0).spec c (V0 m c) _ main_arg4 (by decide), Pipeline.withArrays_of_ne (cfgs 0).spec c (V0 m c) _ main_arg5 (by decide),
    Pipeline.withArrays_of_ne (cfgs 0).spec c (V0 m c) _ main_arg6 (by decide), Pipeline.withArrays_of_ne (cfgs 0).spec c (V0 m c) _ main_arg8 (by decide),
    Pipeline.withArrays_of_ne (cfgs 0).spec c (V0 m c) _ main_arg9 (by decide)]
  rw [show V0 m c (Proc.tc.devRef main_arg0) = _ from V_main_arg0 m c, show V0 m c (Proc.tc.devRef main_arg1) = _ from V_main_arg1 m c,
    show V0 m c (Proc.tc.devRef main_arg2) = _ from V_main_arg2 m c, show V0 m c (Proc.tc.devRef main_arg3) = _ from V_main_arg3 m c,
    show V0 m c (Proc.tc.devRef main_arg4) = _ from V_main_arg4 m c, show V0 m c (Proc.tc.devRef main_arg5) = _ from V_main_arg5 m c,
    show V0 m c (Proc.tc.devRef main_arg6) = _ from V_main_arg6 m c, show V0 m c (Proc.tc.devRef main_arg8) = _ from V_main_arg8 m c,
    show V0 m c (Proc.tc.devRef main_arg9) = _ from V_main_arg9 m c]

end Cert.ReferenceIdeal.Gen
-- ==== Proof.ValEq.lean ====
/- The two formulas of `y` are one: the extended-real arithmetic, for finite inputs and scales. -/
module

public import Idealize.ShloMosaic.PureOps.Ideal

@[expose] public section

noncomputable section

namespace Cert.ValEq

open Idealize.ShloMosaic

/-- A finite term distributes under a finite factor. -/
theorem add_mul_coe (a : EReal) (e c : ℝ) : (a + (e : EReal)) * (c : EReal) = a * c + (e : EReal) * c := by
  induction a using EReal.rec with
  | coe r => norm_cast; ring
  | top =>
    rw [EReal.top_add_of_ne_bot (EReal.coe_ne_bot e), ← EReal.coe_mul]
    rcases lt_trichotomy c 0 with h | h | h
    · rw [EReal.top_mul_coe_of_neg h, EReal.bot_add]
    · subst h; simp
    · rw [EReal.top_mul_coe_of_pos h, EReal.top_add_of_ne_bot (EReal.coe_ne_bot _)]
  | bot =>
    rw [EReal.bot_add, ← EReal.coe_mul]
    rcases lt_trichotomy c 0 with h | h | h
    · rw [EReal.bot_mul_coe_of_neg h, EReal.top_add_of_ne_bot (EReal.coe_ne_bot _)]
    · subst h; simp
    · rw [EReal.bot_mul_coe_of_pos h, EReal.bot_add]

/-- A finite nonnegative factor comes out of a sum. -/
theorem mul_sum_coe {n : ℕ} (r : ℝ) (hr : 0 ≤ r) (f : Fin n → EReal) : (∑ k, (r : EReal) * f k) = (r : EReal) * ∑ k, f k := by
  classical
  induction (Finset.univ : Finset (Fin n)) using Finset.induction_on with
  | empty => simp
  | insert a s ha ih =>
    rw [Finset.sum_insert ha, Finset.sum_insert ha, ih,
      EReal.left_distrib_of_nonneg_of_ne_top (EReal.coe_nonneg.mpr hr) (EReal.coe_ne_top r)]

/-- A sum of finite terms is finite. -/
theorem sum_coe {n : ℕ} (f : Fin n → ℝ) : (∑ k, (f k : EReal)) = ((∑ k, f k : ℝ) : EReal) := by
  classical
  induction (Finset.univ : Finset (Fin n)) using Finset.induction_on with
  | empty => simp
  | insert a s ha ih => rw [Finset.sum_insert ha, Finset.sum_insert ha, ih, EReal.coe_add]

/-- The exponential of something not above zero is finite and nonnegative. -/
theorem exp_real (z : EReal) (hz : z ≤ 0) : ∃ q : ℝ, 0 ≤ q ∧ Ideal.exp z = (q : EReal) := by
  induction z using EReal.rec with
  | coe r => exact ⟨Real.exp r, (Real.exp_pos r).le, rfl⟩
  | top => exact absurd hz (by simp)
  | bot => exact ⟨0, le_refl _, rfl⟩

theorem exp_nonneg (z : EReal) : 0 ≤ Ideal.exp z := by
  induction z using EReal.rec with
  | coe r => exact EReal.coe_nonneg.mpr (Real.exp_pos r).le
  | top => exact le_top
  | bot => exact le_refl _

/-- The step of a finite argument is finite and nonnegative. -/
theorem step_real (v : ℝ) : ∃ d : ℝ, 0 ≤ d ∧
    max (v : EReal) 0 + Ideal.log1p (Ideal.exp (-(FloatOps.absf (F := Ideal) (φ := .f32) (v : EReal) : EReal))) = (d : EReal) := by
  have ha : (FloatOps.absf (F := Ideal) (φ := .f32) (v : EReal) : EReal) = ((max v (-v) : ℝ) : EReal) := by
    show max (v : EReal) (-(v : EReal)) = _
    rw [← EReal.coe_neg]
    exact (EReal.coe_strictMono.monotone.map_max).symm
  refine ⟨max v 0 + Real.log (1 + Real.exp (-(max v (-v)))), ?_, ?_⟩
  · have := Real.exp_pos (-(max v (-v)))
    exact add_nonneg (le_max_right _ _) (Real.log_nonneg (by linarith))
  · rw [ha, ← EReal.coe_neg, Ideal.exp_coe, Ideal.log1p, ← EReal.coe_one, ← EReal.coe_add]
    have hp : ¬ (1 + Real.exp (-(max v (-v))) ≤ 0) := by
      have := Real.exp_pos (-(max v (-v))); linarith
    rw [show Ideal.log ((1 + Real.exp (-(max v (-v))) : ℝ) : EReal) = if (1 + Real.exp (-(max v (-v)))) ≤ 0 then ⊥ else (Real.log (1 + Real.exp (-(max v (-v)))) : EReal) from rfl,
      if_neg hp, EReal.coe_add, show ((max v 0 : ℝ) : EReal) = max (v : EReal) 0 from EReal.coe_strictMono.monotone.map_max]

/-- The plain recurrence's output is the factored one. -/
theorem y_eq {n : ℕ} (q s d x : ℝ) (hq : 0 ≤ q) (hs : 0 ≤ s) (K : EReal) (code : Fin n → EReal) (B C : Fin n → ℝ) :
    (∑ k, ((q : EReal) * (code k * (s : EReal)) + (d : EReal) * x * (B k : EReal)) * (C k : EReal)) + K
      = (q : EReal) * s * (∑ k, (C k : EReal) * code k) + (d : EReal) * x * (∑ k, (B k : EReal) * (C k : EReal)) + K := by
  have e1 : ∀ k, ((q : EReal) * (code k * (s : EReal)) + (d : EReal) * x * (B k : EReal)) * (C k : EReal)
      = ((q * s : ℝ) : EReal) * ((C k : EReal) * code k) + ((d * x * (B k * C k) : ℝ) : EReal) := by
    intro k
    rw [← EReal.coe_mul, ← EReal.coe_mul, add_mul_coe, ← EReal.coe_mul, EReal.coe_mul q s]
    congr 1
    · rw [mul_comm (code k), ← mul_assoc (q : EReal), mul_assoc _ (code k), mul_comm (code k)]
    · norm_cast; ring
  rw [Finset.sum_congr rfl fun k _ => e1 k, Finset.sum_add_distrib, mul_sum_coe _ (mul_nonneg hq hs), sum_coe,
    show (∑ k, (B k : EReal) * (C k : EReal)) = ∑ k, ((B k * C k : ℝ) : EReal) from Finset.sum_congr rfl fun k _ => (EReal.coe_mul _ _).symm, sum_coe,
    ← Finset.mul_sum, EReal.coe_mul, EReal.coe_mul, EReal.coe_mul]

/-- An extended real whose magnitude is below the top is a real. -/
theorem real_of_abs (a : EReal) (h : (FloatOps.absf (F := Ideal) (φ := .f32) a : EReal) < ⊤) : ∃ r : ℝ, a = (r : EReal) := by
  have h' : max a (-a) < ⊤ := h
  induction a using EReal.rec with
  | coe r => exact ⟨r, rfl⟩
  | top => simp at h'
  | bot => simp at h'

theorem real_of_range (a : EReal) (h0 : 0 ≤ a) (h1 : a < ⊤) : ∃ r : ℝ, 0 ≤ r ∧ a = (r : EReal) := by
  induction a using EReal.rec with
  | coe r => exact ⟨r, EReal.coe_nonneg.mp h0, rfl⟩
  | top => simp at h1
  | bot => simp at h0

/-- The reference's formula of an item equals the kernel's, for finite inputs and a finite nonnegative scale. -/
theorem formula_eq {n : ℕ} (A dt bias x D s : EReal) (code B C : Fin n → EReal)
    (hdt : ∃ r : ℝ, dt = r) (hb : ∃ r : ℝ, bias = r) (hx : ∃ r : ℝ, x = r) (hs : ∃ r : ℝ, 0 ≤ r ∧ s = r)
    (hB : ∀ k, ∃ r : ℝ, B k = r) (hC : ∀ k, ∃ r : ℝ, C k = r) :
    (∑ k, (Ideal.exp (-(Ideal.exp A) * (max (dt + bias) 0 + Ideal.log1p (Ideal.exp (-(FloatOps.absf (F := Ideal) (φ := .f32) (dt + bias) : EReal))))) * (code k * s)
        + (max (dt + bias) 0 + Ideal.log1p (Ideal.exp (-(FloatOps.absf (F := Ideal) (φ := .f32) (dt + bias) : EReal)))) * x * B k) * C k) + D * x
      = Ideal.exp ((0 - Ideal.exp A) * (max (dt + bias) 0 + Ideal.log1p (Ideal.exp (0 - (FloatOps.absf (F := Ideal) (φ := .f32) (dt + bias) : EReal))))) * s * (∑ k, C k * code k)
        + (max (dt + bias) 0 + Ideal.log1p (Ideal.exp (0 - (FloatOps.absf (F := Ideal) (φ := .f32) (dt + bias) : EReal)))) * x * (∑ k, B k * C k) + D * x := by
  obtain ⟨dt, rfl⟩ := hdt
  obtain ⟨bias, rfl⟩ := hb
  obtain ⟨x, rfl⟩ := hx
  obtain ⟨s, hs, rfl⟩ := hs
  choose B' hB' using hB
  choose C' hC' using hC
  obtain rfl : B = fun k => (B' k : EReal) := funext hB'
  obtain rfl : C = fun k => (C' k : EReal) := funext hC'
  have zs : ∀ a : EReal, 0 - a = -a := fun a => by rw [sub_eq_add_neg, zero_add]
  simp only [zs]
  rw [← EReal.coe_add]
  obtain ⟨d, hd, ed⟩ := step_real (dt + bias)
  rw [ed]
  obtain ⟨q, hq, eq⟩ := exp_real (-(Ideal.exp A) * (d : EReal)) (by
    rw [EReal.neg_mul, EReal.neg_le, neg_zero]
    exact mul_nonneg (exp_nonneg A) (EReal.coe_nonneg.mpr hd))
  rw [eq]
  exact y_eq q s d x hq hs _ code B' C'

end Cert.ValEq
-- ==== Proof.ValClaim.lean ====
/- The value claim: where the mask is set, the two programs end with the same `y`. -/
module

public import proofs.«01_k».proof.Defs
public import proofs.«01_k».proof.Proof.ValArr
public import proofs.«01_k».proof.Proof.KernelIdealFrame
public import proofs.«01_k».proof.Proof.RefRun
public import proofs.«01_k».proof.Proof.ValEq
public import proofs.«01_k».proof.Proof.Gen.Pre_finite_ok
public import proofs.«01_k».proof.Proof.Gen.On_y_only

@[expose] public section

set_option maxRecDepth 16384

noncomputable section

namespace Cert.ValClaim

open Idealize.ShloMosaic Idealize.ShloMosaic.TcCoe Idealize.ShloMosaic.Tactic Idealize.SL.Sem

theorem ofBool_one (p : Bool) (h : BitVec.ofBool p = 1#1) : p = true := by cases p <;> revert h <;> decide

theorem inf_bits : (FloatOps.ofBits (F := Ideal) .f32 0x7F800000#32 : EReal) = ⊤ := by
  show Ideal.ofBits .f32 0x7F800000#32 = ⊤
  simp [Ideal.ofBits, Ideal.ieee]

section Decode
open Cert.Pre_finite_ok
variable (a0 : FVec Ideal S256x48x64 .bf16) (a1 : FVec Ideal S256x48 .bf16) (a2 a3 : FVec Ideal S48 .f32)
  (a4 a5 : FVec Ideal S256x1x128 .bf16) (a6 : FVec Ideal S48 .f32) (a7 : FVec Ideal S323x48x64x128 .fp8e4m3) (a8 : FVec Ideal S323x48x64 .f32)
  (a9 a10 : IVec S256 32)

theorem dec_x (h : (Cert.Pre_finite_ok.fn (F := Ideal) a0 a1 a2 a3 a4 a5 a6 a7 a8 a9 a10).2.1 = fun _ => 1#1) (b : Fin 256) (hh : Fin 48) (p : Fin 64) :
    ∃ r : ℝ, a0 (ix3 b hh p) = (r : EReal) := by
  refine Cert.ValEq.real_of_abs _ ?_
  have e : Ideal.cmp .olt (FloatOps.absf (F := Ideal) (φ := .f32) (a0 (ix3 b hh p))) (FloatOps.ofBits (F := Ideal) .f32 0x7F800000#32) = 1#1 := congrFun h (ix3 b hh p)
  rw [inf_bits] at e
  exact of_decide_eq_true (ofBool_one _ e)

theorem dec_dt (h : (Cert.Pre_finite_ok.fn (F := Ideal) a0 a1 a2 a3 a4 a5 a6 a7 a8 a9 a10).2.2.1 = fun _ => 1#1) (b : Fin 256) (hh : Fin 48) :
    ∃ r : ℝ, a1 (ix2 b hh) = (r : EReal) := by
  refine Cert.ValEq.real_of_abs _ ?_
  have e : Ideal.cmp .olt (FloatOps.absf (F := Ideal) (φ := .f32) (a1 (ix2 b hh))) (FloatOps.ofBits (F := Ideal) .f32 0x7F800000#32) = 1#1 := congrFun h (ix2 b hh)
  rw [inf_bits] at e
  exact of_decide_eq_true (ofBool_one _ e)

theorem dec_bias (h : (Cert.Pre_finite_ok.fn (F := Ideal) a0 a1 a2 a3 a4 a5 a6 a7 a8 a9 a10).2.2.2.1 = fun _ => 1#1) (hh : Fin 48) :
    ∃ r : ℝ, a2 (ix1 hh) = (r : EReal) := by
  refine Cert.ValEq.real_of_abs _ ?_
  have e : Ideal.cmp .olt (FloatOps.absf (F := Ideal) (φ := .f32) (a2 (ix1 hh))) (FloatOps.ofBits (F := Ideal) .f32 0x7F800000#32) = 1#1 := congrFun h (ix1 hh)
  rw [inf_bits] at e
  exact of_decide_eq_true (ofBool_one _ e)

theorem dec_B (h : (Cert.Pre_finite_ok.fn (F := Ideal) a0 a1 a2 a3 a4 a5 a6 a7 a8 a9 a10).2.2.2.2.1 = fun _ => 1#1) (b : Fin 256) (k : Fin 128) :
    ∃ r : ℝ, a4 (ix3 b 0 k) = (r : EReal) := by
  refine Cert.ValEq.real_of_abs _ ?_
  have e : Ideal.cmp .olt (FloatOps.absf (F := Ideal) (φ := .f32) (a4 (ix3 b 0 k))) (FloatOps.ofBits (F := Ideal) .f32 0x7F800000#32) = 1#1 := congrFun h (ix3 b 0 k)
  rw [inf_bits] at e
  exact of_decide_eq_true (ofBool_one _ e)

theorem dec_C (h : (Cert.Pre_finite_ok.fn (F := Ideal) a0 a1 a2 a3 a4 a5 a6 a7 a8 a9 a10).2.2.2.2.2.1 = fun _ => 1#1) (b : Fin 256) (k : Fin 128) :
    ∃ r : ℝ, a5 (ix3 b 0 k) = (r : EReal) := by
  refine Cert.ValEq.real_of_abs _ ?_
  have e : Ideal.cmp .olt (FloatOps.absf (F := Ideal) (φ := .f32) (a5 (ix3 b 0 k))) (FloatOps.ofBits (F := Ideal) .f32 0x7F800000#32) = 1#1 := congrFun h (ix3 b 0 k)
  rw [inf_bits] at e
  exact of_decide_eq_true (ofBool_one _ e)

theorem dec_scale (h : (Cert.Pre_finite_ok.fn (F := Ideal) a0 a1 a2 a3 a4 a5 a6 a7 a8 a9 a10).2.2.2.2.2.2 = fun _ => 1#1) (r : Fin 323) (hh : Fin 48) (p : Fin 64) :
    ∃ s : ℝ, 0 ≤ s ∧ a8 (ix3 r hh p) = (s : EReal) := by
  have zero_bits : (FloatOps.ofBits (F := Ideal) .f32 0#32 : EReal) = 0 := by pointwise
  have e : IntOp.andi (Ideal.cmp .oge (a8 (ix3 r hh p)) (FloatOps.ofBits (F := Ideal) .f32 0#32))
      (Ideal.cmp .olt (a8 (ix3 r hh p)) (FloatOps.ofBits (F := Ideal) .f32 0x7F800000#32)) = 1#1 := congrFun h (ix3 r hh p)
  rw [inf_bits, zero_bits] at e
  have andi_ofBool (p q : Bool) : IntOp.andi (BitVec.ofBool p) (BitVec.ofBool q) = BitVec.ofBool (p && q) := by
    cases p <;> cases q <;> decide
  have e' := ofBool_one _ ((andi_ofBool _ _).symm.trans e)
  rw [Bool.and_eq_true] at e'
  exact Cert.ValEq.real_of_range _ (of_decide_eq_true e'.1) (of_decide_eq_true e'.2)
end Decode

theorem ok (m : (ℓ : Loc Cert.KernelIdeal.nD Cert.KernelIdeal.τ Cert.KernelIdeal.sig) → Buf (Elt Ideal) ℓ) (h : Cert.Pre_KernelIdeal_finite_ok m) : Cert.KernelIdeal.Gen.Ok m :=
  Cert.KernelIdeal.Gen.ok_of_pre m (h 0).1

/-- The two results are one array, from what the runs leave in them. -/
theorem y_same (m : (ℓ : Loc Cert.KernelIdeal.nD Cert.KernelIdeal.τ Cert.KernelIdeal.sig) → Buf (Elt Ideal) ℓ) (h : Cert.Pre_KernelIdeal_finite_ok m)
    (c : Dev Cert.KernelIdeal.nD)
    (a9 : IVec Cert.ReferenceIdeal.S256 32) (a0 : FVec Ideal Cert.ReferenceIdeal.S256x48x64 .bf16) (a1 : FVec Ideal Cert.ReferenceIdeal.S256x48 .bf16)
    (a2 a3 : FVec Ideal Cert.ReferenceIdeal.S48 .f32)
    (a4 a5 : FVec Ideal Cert.ReferenceIdeal.S256x1x128 .bf16) (a6 : FVec Ideal Cert.ReferenceIdeal.S48 .f32)
    (a7 : FVec Ideal Cert.ReferenceIdeal.S323x48x64x128 .fp8e4m3) (a8 : FVec Ideal Cert.ReferenceIdeal.S323x48x64 .f32)
    (e9 : a9 = m ((c.tc : Thread Cert.KernelIdeal.nD Cert.KernelIdeal.τ).loc Cert.KernelIdeal.main_arg9))
    (e0 : a0 = m ((c.tc : Thread Cert.KernelIdeal.nD Cert.KernelIdeal.τ).loc Cert.KernelIdeal.main_arg0))
    (e1 : a1 = m ((c.tc : Thread Cert.KernelIdeal.nD Cert.KernelIdeal.τ).loc Cert.KernelIdeal.main_arg1))
    (e2 : a2 = m ((c.tc : Thread Cert.KernelIdeal.nD Cert.KernelIdeal.τ).loc Cert.KernelIdeal.main_arg2))
    (e3 : a3 = m ((c.tc : Thread Cert.KernelIdeal.nD Cert.KernelIdeal.τ).loc Cert.KernelIdeal.main_arg3))
    (e4 : a4 = m ((c.tc : Thread Cert.KernelIdeal.nD Cert.KernelIdeal.τ).loc Cert.KernelIdeal.main_arg4))
    (e5 : a5 = m ((c.tc : Thread Cert.KernelIdeal.nD Cert.KernelIdeal.τ).loc Cert.KernelIdeal.main_arg5))
    (e6 : a6 = m ((c.tc : Thread Cert.KernelIdeal.nD Cert.KernelIdeal.τ).loc Cert.KernelIdeal.main_arg6))
    (e7 : a7 = m ((c.tc : Thread Cert.KernelIdeal.nD Cert.KernelIdeal.τ).loc Cert.KernelIdeal.main_arg7))
    (e8 : a8 = m ((c.tc : Thread Cert.KernelIdeal.nD Cert.KernelIdeal.τ).loc Cert.KernelIdeal.main_arg8)) :
    Cert.ReferenceIdeal.Gen.yv (Cert.ReferenceIdeal.Gen.hv
        (Cert.ReferenceIdeal.Gen.codesG a7 a9)
        (Cert.ReferenceIdeal.Gen.scalesG a8 a9)
        a0 a3 a4 (Cert.ReferenceIdeal.Gen.spv (Cert.ReferenceIdeal.Gen.dtv a1 a2))) a0 a5 a6
      = (Cert.KernelIdeal.Gen.datsV m (ok m h) 0 c).arrAt 9 (Cert.KernelIdeal.Gen.cfgM m (ok m h)).N := by
  obtain rfl : c = 0 := Subsingleton.elim _ _
  obtain ⟨h0, hx, hdt, hbias, hB, hC, hs⟩ := h 0
  funext i
  obtain ⟨b, hh, p, rfl⟩ : ∃ (b : Fin 256) (hh : Fin 48) (p : Fin 64), i = ix3 b hh p := ⟨i 0, i 1, i 2, by
    funext a; match a with | ⟨0, _⟩ => rfl | ⟨1, _⟩ => rfl | ⟨2, _⟩ => rfl⟩
  have hb := b.isLt
  have hw : (Cert.KernelIdeal.Gen.slotW m 0 b).toNat < 323 := Cert.KernelIdeal.Gen.slot_lt m (h 0).1 _
  have hr : (a9 (ix1 b)).toNat
      = (⟨(Cert.KernelIdeal.Gen.slotW m 0 b).toNat, hw⟩ : Fin 323).val := by
    subst e9
    rfl
  refine Eq.trans ?_ (Cert.KernelIdeal.Gen.arr_y m (ok m h) 0 b hh p).symm
  rw [Cert.KernelIdeal.Gen.yAt_apply m (ok m h) 0 b ⟨_, hw⟩ rfl hh p, Cert.ReferenceIdeal.Gen.yv_apply]
  simp only [Cert.ReferenceIdeal.Gen.hv_apply, Cert.ReferenceIdeal.Gen.codesG_apply a7 _ b ⟨_, hw⟩ hr, Cert.ReferenceIdeal.Gen.scalesG_apply a8 _ b ⟨_, hw⟩ hr,
    Cert.ReferenceIdeal.Gen.spv_apply, Cert.ReferenceIdeal.Gen.dtv_apply]
  subst e0 e1 e2 e3 e4 e5 e6 e7 e8
  unfold Cert.KernelIdeal.Gen.yK Cert.KernelIdeal.Gen.dl
  exact Cert.ValEq.formula_eq _ _ _ _ _ _ _ _ _ (dec_dt _ _ _ _ _ _ _ _ _ _ _ hdt b hh) (dec_bias _ _ _ _ _ _ _ _ _ _ _ hbias hh)
    (dec_x _ _ _ _ _ _ _ _ _ _ _ hx b hh p) (dec_scale _ _ _ _ _ _ _ _ _ _ _ hs _ hh p) (dec_B _ _ _ _ _ _ _ _ _ _ _ hB b) (dec_C _ _ _ _ _ _ _ _ _ _ _ hC b)

theorem algebraic : Cert.algebraic_KernelIdeal_ReferenceIdeal_on_y_only_pre_finite_ok := by
  intro m g m' g' hpre hagree
  refine ⟨fun c => (Cert.KernelIdeal.Gen.datsV m (ok m hpre) 0 c).arrAt 9 (Cert.KernelIdeal.Gen.cfgM m (ok m hpre)).N,
    fun c => m ((c.tc : Thread Cert.KernelIdeal.nD Cert.KernelIdeal.τ).loc Cert.KernelIdeal.main_arg7),
    fun c => m ((c.tc : Thread Cert.KernelIdeal.nD Cert.KernelIdeal.τ).loc Cert.KernelIdeal.main_arg8), ?_, ?_⟩
  · refine θ_run_mono (θ_run_and (Cert.KernelIdeal.Gen.y_array m g (ok m hpre)) (Cert.KernelIdeal.Gen.frame m g (ok m hpre))) ?_
    rintro r ⟨hy, hf, -⟩ c
    refine ⟨fun i _ => congrFun (hy c) i, fun i hi => absurd hi (by decide : ¬ (0#1 = 1#1)), fun i hi => absurd hi (by decide : ¬ (0#1 = 1#1)), hf c⟩
  · refine θ_run_mono (θ_run_and (Cert.ReferenceIdeal.Gen.run_y m' g') (Cert.ReferenceIdeal.Gen.frame m' g')) ?_
    rintro r ⟨hy, hf, -⟩ c
    obtain ⟨e0, e1, e2, e3, e4, e5, e6, e7, e8, e9, e10⟩ := hagree c
    refine ⟨fun i _ => congrFun ((hy c).trans (y_same m hpre c _ _ _ _ _ _ _ _ _ _ e9 e0 e1 e2 e3 e4 e5 e6 e7 e8)) i,
      fun i hi => absurd hi (by decide : ¬ (0#1 = 1#1)), fun i hi => absurd hi (by decide : ¬ (0#1 = 1#1)), hf c⟩

end Cert.ValClaim
-- ==== Proof.lean ====
/- The certificate: every conjunct of `Cert.Claim` from the modules under Proof/. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_slots_ok
public import proofs.«01_k».proof.Proof.Gen.Pre_finite_ok
public import proofs.«01_k».proof.Proof.Gen.On_y_only
public import proofs.«01_k».proof.Proof.KernelFrame
public import proofs.«01_k».proof.Proof.KernelIdealFrame
public import proofs.«01_k».proof.Proof.ValClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_slots_ok.Gen.facts,
  Cert.Pre_finite_ok.Gen.facts, Cert.On_y_only.Gen.facts,
  fun m ρ h => Cert.Kernel.Gen.frame m ρ (Cert.Kernel.Gen.ok_of_pre m (h 0)),
  fun m ρ h => Cert.KernelIdeal.Gen.frame m ρ (Cert.KernelIdeal.Gen.ok_of_pre m (h 0)),
  fun m ρ h => Cert.KernelIdeal.Gen.frame m ρ (Cert.ValClaim.ok m h),
  fun m ρ _ => Cert.ReferenceIdeal.Gen.frame m ρ,
  fun m ρ _ => Cert.ReferenceIdeal.Gen.frame m ρ,
  trivial,
  Cert.ValClaim.algebraic⟩

end Cert.Proof

end
